-- ==== Defs.lean ====
def Pre_Kernel [hPre_channels_in_range : Cert.Pre_channels_in_range.Facts] (m : (ℓ : Loc Cert.Kernel.nD Cert.Kernel.τ Cert.Kernel.sig) → Buf (Elt Bits) ℓ) : Prop :=
  ∀ c : Dev Cert.Kernel.nD,
    (Cert.Pre_channels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_channels_in_range : Cert.Pre_channels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_channels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_distinct_channels_finite_x [hPre_distinct_channels_finite_x : Cert.Pre_distinct_channels_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_channels_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_channels_finite_x [hPre_distinct_channels_finite_x : Cert.Pre_distinct_channels_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_channels_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_channels_in_range : Cert.Pre_channels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_channels_in_range : Cert.Pre_channels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct_channels_finite_x [hKernelIdeal : Cert.KernelIdeal.Facts] [hPre_distinct_channels_finite_x : Cert.Pre_distinct_channels_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_channels_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct_channels_finite_x [hReferenceIdeal : Cert.ReferenceIdeal.Facts] [hPre_distinct_channels_finite_x : Cert.Pre_distinct_channels_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_channels_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_distinct_channels_finite_x [hKernelIdeal : Cert.KernelIdeal.Facts] [hReferenceIdeal : Cert.ReferenceIdeal.Facts] [hPre_distinct_channels_finite_x : Cert.Pre_distinct_channels_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_channels_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v37_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_channels_in_range : Cert.Pre_channels_in_range.Facts) (hPre_distinct_channels_finite_x : Cert.Pre_distinct_channels_finite_x.Facts),
    quiescent_Kernel (hKernel := hKernel) (hPre_channels_in_range := hPre_channels_in_range)
    ∧ quiescent_KernelIdeal (hKernelIdeal := hKernelIdeal) (hPre_channels_in_range := hPre_channels_in_range)
    ∧ quiescent_KernelIdeal_pre_distinct_channels_finite_x (hKernelIdeal := hKernelIdeal) (hPre_distinct_channels_finite_x := hPre_distinct_channels_finite_x)
    ∧ quiescent_ReferenceIdeal (hReferenceIdeal := hReferenceIdeal)
    ∧ quiescent_ReferenceIdeal_pre_distinct_channels_finite_x (hReferenceIdeal := hReferenceIdeal) (hPre_distinct_channels_finite_x := hPre_distinct_channels_finite_x)
    ∧ preserves_Kernel_KernelIdeal
    ∧ algebraic_KernelIdeal_ReferenceIdeal_pre_distinct_channels_finite_x (hKernelIdeal := hKernelIdeal) (hReferenceIdeal := hReferenceIdeal) (hPre_distinct_channels_finite_x := hPre_distinct_channels_finite_x)
-- ==== Pre_channels_in_range.lean ====
abbrev S6x1024x3584 : Shape := ⟨3, ![6, 1024, 3584]⟩
abbrev S128 : Shape := ⟨1, ![128]⟩
abbrev S128x17024 : Shape := ⟨2, ![128, 17024]⟩
abbrev S3584x17024 : Shape := ⟨2, ![3584, 17024]⟩
abbrev S28x133 : Shape := ⟨2, ![28, 133]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S6x1024x3584 .bf16) (main_arg1 : IVec S128 32) (main_arg2 : FVec F S128x17024 .bf16) (main_arg3 : FVec F S3584x17024 .fp8e4m3) (main_arg4 : FVec F S28x133 .f32) : IVec S128 1 :=
  let main_c : IVec S_ 32 := constantI S_ 32 0#32
  let main_v0 : IVec S128 32 := broadcastInDim S128 ![] bcast_S_S128 main_c
  let main_v1 : IVec S128 1 := cmpi .sge main_arg1 main_v0
  let main_c_0 : IVec S_ 32 := constantI S_ 32 3584#32
  let main_v2 : IVec S128 32 := broadcastInDim S128 ![] bcast_S_S128 main_c_0
  let main_v3 : IVec S128 1 := cmpi .slt main_arg1 main_v2
  let main_v4 : IVec S128 1 := andi main_v1 main_v3
  main_v4
-- ==== Pre_distinct_channels_finite_x.lean ====
abbrev S6x1024x3584 : Shape := ⟨3, ![6, 1024, 3584]⟩
abbrev S128 : Shape := ⟨1, ![128]⟩
abbrev S128x17024 : Shape := ⟨2, ![128, 17024]⟩
abbrev S3584x17024 : Shape := ⟨2, ![3584, 17024]⟩
abbrev S28x133 : Shape := ⟨2, ![28, 133]⟩
abbrev S128x128 : Shape := ⟨2, ![128, 128]⟩
abbrev S_ : Shape := ⟨0, ![]⟩

class Facts : Prop where
  bcast_S128_S128x128_0 : S128.BroadcastsInDim S128x128 (![0] : Fin 1 → Fin S128x128.rank)
  bcast_S128_S128x128_1 : S128.BroadcastsInDim S128x128 (![1] : Fin 1 → Fin S128x128.rank)
  bcast_S_S128x128 : S_.BroadcastsInDim S128x128 (![] : Fin 0 → Fin S128x128.rank)
  bcast_S_S6x1024x3584 : S_.BroadcastsInDim S6x1024x3584 (![] : Fin 0 → Fin S6x1024x3584.rank)
  reducesTo_S128x128_S_d0_1 : S128x128.ReducesTo [0, 1] S_
  h_S_ : 0 < S_.numel
  reducesTo_S6x1024x3584_S_d0_1_2 : S6x1024x3584.ReducesTo [0, 1, 2] S_

variable [Facts]

def fn {F : FTy → Type} [FloatOps F] (main_arg0 : FVec F S6x1024x3584 .bf16) (main_arg1 : IVec S128 32) (main_arg2 : FVec F S128x17024 .bf16) (main_arg3 : FVec F S3584x17024 .fp8e4m3) (main_arg4 : FVec F S28x133 .f32) : IVec S_ 1 :=
  let main_v0 : IVec S128x128 32 := broadcastInDim S128x128 ![0] bcast_S128_S128x128_0 main_arg1
  let main_v1 : IVec S128x128 32 := broadcastInDim S128x128 ![1] bcast_S128_S128x128_1 main_arg1
  let main_v2 : IVec S128x128 32 := iotaInDim S128x128 32 0
  let main_v3 : IVec S128x128 32 := iotaInDim S128x128 32 1
  let main_v4 : IVec S128x128 1 := cmpi .eq main_v2 main_v3
  let main_c : IVec S_ 32 := constantI S_ 32 0#32
  let main_v5 : IVec S128x128 32 := broadcastInDim S128x128 ![] bcast_S_S128x128 main_c
  let main_v6 : IVec S128x128 1 := cmpi .sge main_v0 main_v5
  let main_c_0 : IVec S_ 32 := constantI S_ 32 3584#32
  let main_v7 : IVec S128x128 32 := broadcastInDim S128x128 ![] bcast_S_S128x128 main_c_0
  let main_v8 : IVec S128x128 1 := cmpi .slt main_v0 main_v7
  let main_v9 : IVec S128x128 1 := andi main_v6 main_v8
  let main_v10 : FVec F S6x1024x3584 .bf16 := Host.absf main_arg0
  let main_cst : FVec F S_ .bf16 := constant S_ .bf16 0x7F7F#16
  let main_v11 : FVec F S6x1024x3584 .bf16 := broadcastInDim S6x1024x3584 ![] bcast_S_S6x1024x3584 main_cst
  let main_v12 : IVec S6x1024x3584 1 := cmpf .ole main_v10 main_v11
  let main_v13 : IVec S128x128 1 := cmpi .ne main_v0 main_v1
  let main_v14 : IVec S128x128 1 := ori main_v13 main_v4
  let main_v15 : IVec S128x128 1 := andi main_v9 main_v14
  let main_c_1 : IVec S_ 1 := constantI S_ 1 1#1
  let main_v16 : IVec S_ 1 := (fun x v => Host.reduce IntOp.andi x v reducesTo_S128x128_S_d0_1 h_S_) main_v15 main_c_1
  let main_c_2 : IVec S_ 1 := constantI S_ 1 1#1
  let main_v17 : IVec S_ 1 := (fun x v => Host.reduce IntOp.andi x v reducesTo_S6x1024x3584_S_d0_1_2 h_S_) main_v12 main_c_2
  let main_v18 : IVec S_ 1 := andi main_v16 main_v17
  main_v18
-- ==== Kernel.lean ====
abbrev S6x1024x3584 : Shape := ⟨3, ![6, 1024, 3584]⟩
abbrev S128 : Shape := ⟨1, ![128]⟩
abbrev S128x17024 : Shape := ⟨2, ![128, 17024]⟩
abbrev S3584x17024 : Shape := ⟨2, ![3584, 17024]⟩
abbrev S28x133 : Shape := ⟨2, ![28, 133]⟩
abbrev S_ : Shape := ⟨0, ![]⟩
abbrev S28x136 : Shape := ⟨2, ![28, 136]⟩
abbrev S6144x3584 : Shape := ⟨2, ![6144, 3584]⟩
abbrev S128x1 : Shape := ⟨2, ![128, 1]⟩
abbrev S6144x17024 : Shape := ⟨2, ![6144, 17024]⟩
abbrev S6144x28 : Shape := ⟨2, ![6144, 28]⟩
abbrev S1024x3584 : Shape := ⟨2, ![1024, 3584]⟩
abbrev S128x512 : Shape := ⟨2, ![128, 512]⟩
abbrev S3584x512 : Shape := ⟨2, ![3584, 512]⟩
abbrev S1024x512 : Shape := ⟨2, ![1024, 512]⟩
abbrev S1024x28 : Shape := ⟨2, ![1024, 28]⟩
abbrev S1x256 : Shape := ⟨2, ![1, 256]⟩
abbrev S128x128 : Shape := ⟨2, ![128, 128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩
abbrev S1x1 : Shape := ⟨2, ![1, 1]⟩
abbrev S2x512 : Shape := ⟨2, ![2, 512]⟩
abbrev S1 : Shape := ⟨1, ![1]⟩
abbrev S1x512 : Shape := ⟨2, ![1, 512]⟩

abbrev nBuf : Space → Nat
  | .hbm => 13
  | .vmem => 16
  | .smem => 2
  | _ => 0

abbrev bufTy : (tb : Table) → Fin (tcTables nBuf tb) → BufTy
  | .hbm, ⟨0, _⟩ => ⟨S6x1024x3584, .bf16⟩
  | .hbm, ⟨1, _⟩ => ⟨S128, .i32⟩
  | .hbm, ⟨2, _⟩ => ⟨S128x17024, .bf16⟩
  | .hbm, ⟨3, _⟩ => ⟨S3584x17024, .fp8e4m3⟩
  | .hbm, ⟨4, _⟩ => ⟨S28x133, .f32⟩
  | .hbm, ⟨5, _⟩ => ⟨S_, .f32⟩
  | .hbm, ⟨6, _⟩ => ⟨S_, .f32⟩
  | .hbm, ⟨7, _⟩ => ⟨S28x136, .f32⟩
  | .hbm, ⟨8, _⟩ => ⟨S6144x3584, .bf16⟩
  | .hbm, ⟨9, _⟩ => ⟨S128x1, .i32⟩
  | .hbm, ⟨10, _⟩ => ⟨S6144x17024, .bf16⟩
  | .hbm, ⟨11, _⟩ => ⟨S6144x3584, .fp8e4m3⟩
  | .hbm, ⟨12, _⟩ => ⟨S6144x28, .f32⟩
  | .local _ .vmem, ⟨0, _⟩ => ⟨S1024x3584, .bf16⟩
  | .local _ .vmem, ⟨1, _⟩ => ⟨S1024x3584, .bf16⟩
  | .local _ .vmem, ⟨2, _⟩ => ⟨S128x1, .i32⟩
  | .local _ .vmem, ⟨3, _⟩ => ⟨S128x512, .bf16⟩
  | .local _ .vmem, ⟨4, _⟩ => ⟨S128x512, .bf16⟩
  | .local _ .vmem, ⟨5, _⟩ => ⟨S3584x512, .fp8e4m3⟩
  | .local _ .vmem, ⟨6, _⟩ => ⟨S3584x512, .fp8e4m3⟩
  | .local _ .vmem, ⟨7, _⟩ => ⟨S1024x512, .bf16⟩
  | .local _ .vmem, ⟨8, _⟩ => ⟨S1024x512, .bf16⟩
  | .local _ .vmem, ⟨9, _⟩ => ⟨S1024x3584, .fp8e4m3⟩
  | .local _ .vmem, ⟨10, _⟩ => ⟨S1024x3584, .fp8e4m3⟩
  | .local _ .vmem, ⟨11, _⟩ => ⟨S1024x28, .f32⟩
  | .local _ .vmem, ⟨12, _⟩ => ⟨S1024x28, .f32⟩
  | .local _ .vmem, ⟨13, _⟩ => ⟨S1024x3584, .bf16⟩
  | .local _ .vmem, ⟨14, _⟩ => ⟨S3584x512, .bf16⟩
  | .local _ .vmem, ⟨15, _⟩ => ⟨S128x512, .f32⟩
  | .local _ .smem, ⟨0, _⟩ => ⟨S128, .i32⟩
  | .local _ .smem, ⟨1, _⟩ => ⟨S28x136, .f32⟩
  | _, _ => ⟨S6x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![6, 34], ![false, false]⟩

def k0_off1 (i : grid0.Coords) (c0_i32_1 : BitVec 32) : Fin 2 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  ![0, v5.toNat]
def k0_off2 (i : grid0.Coords) (c0_i32_22 : BitVec 32) : Fin 2 → Nat :=
  let c1 : Index := 1#32
  let arg1 : BitVec 32 := BitVec.ofNat 32 (i 1).val
  let c4_i32_21 : BitVec 32 := 4#32
  let v51 : BitVec 32 := Scalar.muli arg1 c4_i32_21
  let v52 : BitVec 32 := Scalar.addi v51 c0_i32_22
  let v53 : Index := Scalar.indexCast v52
  ![1, v53.toNat]
def k0_off3 (i : grid0.Coords) (c0_i32_49 : BitVec 32) : Fin 2 → Nat :=
  let c2 : Index := 2#32
  let arg1 : BitVec 32 := BitVec.ofNat 32 (i 1).val
  let c4_i32_48 : BitVec 32 := 4#32
  let v99 : BitVec 32 := Scalar.muli arg1 c4_i32_48
  let v100 : BitVec 32 := Scalar.addi v99 c0_i32_49
  let v101 : Index := Scalar.indexCast v100
  ![2, v101.toNat]
def k0_off4 (i : grid0.Coords) (c0_i32_76 : BitVec 32) : Fin 2 → Nat :=
  let c3 : Index := 3#32
  let arg1 : BitVec 32 := BitVec.ofNat 32 (i 1).val
  let c4_i32_75 : BitVec 32 := 4#32
  let v147 : BitVec 32 := Scalar.muli arg1 c4_i32_75
  let v148 : BitVec 32 := Scalar.addi v147 c0_i32_76
  let v149 : Index := Scalar.indexCast v148
  ![3, v149.toNat]
def k0_off5 (i : grid0.Coords) (c0_i32_103 : BitVec 32) : Fin 2 → Nat :=
  let c4 : Index := 4#32
  let arg1 : BitVec 32 := BitVec.ofNat 32 (i 1).val
  let c4_i32_102 : BitVec 32 := 4#32
  let v195 : BitVec 32 := Scalar.muli arg1 c4_i32_102
  let v196 : BitVec 32 := Scalar.addi v195 c0_i32_103
  let v197 : Index := Scalar.indexCast v196
  ![4, v197.toNat]
def k0_off6 (i : grid0.Coords) (c0_i32_129 : BitVec 32) : Fin 2 → Nat :=
  let c5 : Index := 5#32
  let arg1 : BitVec 32 := BitVec.ofNat 32 (i 1).val
  let c4_i32_128 : BitVec 32 := 4#32
  let v243 : BitVec 32 := Scalar.muli arg1 c4_i32_128
  let v244 : BitVec 32 := Scalar.addi v243 c0_i32_129
  let v245 : Index := Scalar.indexCast v244
  ![5, v245.toNat]
def k0_off7 (i : grid0.Coords) (c0_i32_155 : BitVec 32) : Fin 2 → Nat :=
  let c6 : Index := 6#32
  let arg1 : BitVec 32 := BitVec.ofNat 32 (i 1).val
  let c4_i32_154 : BitVec 32 := 4#32
  let v291 : BitVec 32 := Scalar.muli arg1 c4_i32_154
  let v292 : BitVec 32 := Scalar.addi v291 c0_i32_155
  let v293 : Index := Scalar.indexCast v292
  ![6, v293.toNat]
def k0_off8 (i : grid0.Coords) (c0_i32_181 : BitVec 32) : Fin 2 → Nat :=
  let c7 : Index := 7#32
  let arg1 : BitVec 32 := BitVec.ofNat 32 (i 1).val
  let c4_i32_180 : BitVec 32 := 4#32
  let v339 : BitVec 32 := Scalar.muli arg1 c4_i32_180
  let v340 : BitVec 32 := Scalar.addi v339 c0_i32_181
  let v341 : Index := Scalar.indexCast v340
  ![7, v341.toNat]
def k0_off9 (i : grid0.Coords) (c0_i32_207 : BitVec 32) : Fin 2 → Nat :=
  let c8 : Index := 8#32
  let arg1 : BitVec 32 := BitVec.ofNat 32 (i 1).val
  let c4_i32_206 : BitVec 32 := 4#32
  let v387 : BitVec 32 := Scalar.muli arg1 c4_i32_206
  let v388 : BitVec 32 := Scalar.addi v387 c0_i32_207
  let v389 : Index := Scalar.indexCast v388
  ![8, v389.toNat]
def k0_off10 (i : grid0.Coords) (c0_i32_233 : BitVec 32) : Fin 2 → Nat :=
  let c9 : Index := 9#32
  let arg1 : BitVec 32 := BitVec.ofNat 32 (i 1).val
  let c4_i32_232 : BitVec 32 := 4#32
  let v435 : BitVec 32 := Scalar.muli arg1 c4_i32_232
  let v436 : BitVec 32 := Scalar.addi v435 c0_i32_233
  let v437 : Index := Scalar.indexCast v436
  ![9, v437.toNat]
def k0_off11 (i : grid0.Coords) (c0_i32_259 : BitVec 32) : Fin 2 → Nat :=
  let c10 : Index := 10#32
  let arg1 : BitVec 32 := BitVec.ofNat 32 (i 1).val
  let c4_i32_258 : BitVec 32 := 4#32
  let v483 : BitVec 32 := Scalar.muli arg1 c4_i32_258
  let v484 : BitVec 32 := Scalar.addi v483 c0_i32_259
  let v485 : Index := Scalar.indexCast v484
  ![10, v485.toNat]
def k0_off12 (i : grid0.Coords) (c0_i32_285 : BitVec 32) : Fin 2 → Nat :=
  let c11 : Index := 11#32
  let arg1 : BitVec 32 := BitVec.ofNat 32 (i 1).val
  let c4_i32_284 : BitVec 32 := 4#32
  let v531 : BitVec 32 := Scalar.muli arg1 c4_i32_284
  let v532 : BitVec 32 := Scalar.addi v531 c0_i32_285
  let v533 : Index := Scalar.indexCast v532
  ![11, v533.toNat]
def k0_off13 (i : grid0.Coords) (c0_i32_311 : BitVec 32) : Fin 2 → Nat :=
  let c12 : Index := 12#32
  let arg1 : BitVec 32 := BitVec.ofNat 32 (i 1).val
  let c4_i32_310 : BitVec 32 := 4#32
  let v579 : BitVec 32 := Scalar.muli arg1 c4_i32_310
  let v580 : BitVec 32 := Scalar.addi v579 c0_i32_311
  let v581 : Index := Scalar.indexCast v580
  ![12, v581.toNat]
def k0_off14 (i : grid0.Coords) (c0_i32_337 : BitVec 32) : Fin 2 → Nat :=
  let c13 : Index := 13#32
  let arg1 : BitVec 32 := BitVec.ofNat 32 (i 1).val
  let c4_i32_336 : BitVec 32 := 4#32
  let v627 : BitVec 32 := Scalar.muli arg1 c4_i32_336
  let v628 : BitVec 32 := Scalar.addi v627 c0_i32_337
  let v629 : Index := Scalar.indexCast v628
  ![13, v629.toNat]
def k0_off15 (i : grid0.Coords) (c0_i32_363 : BitVec 32) : Fin 2 → Nat :=
  let c14 : Index := 14#32
  let arg1 : BitVec 32 := BitVec.ofNat 32 (i 1).val
  let c4_i32_362 : BitVec 32 := 4#32
  let v675 : BitVec 32 := Scalar.muli arg1 c4_i32_362
  let v676 : BitVec 32 := Scalar.addi v675 c0_i32_363
  let v677 : Index := Scalar.indexCast v676
  ![14, v677.toNat]
def k0_off16 (i : grid0.Coords) (c0_i32_389 : BitVec 32) : Fin 2 → Nat :=
  let c15 : Index := 15#32
  let arg1 : BitVec 32 := BitVec.ofNat 32 (i 1).val
  let c4_i32_388 : BitVec 32 := 4#32
  let v723 : BitVec 32 := Scalar.muli arg1 c4_i32_388
  let v724 : BitVec 32 := Scalar.addi v723 c0_i32_389
  let v725 : Index := Scalar.indexCast v724
  ![15, v725.toNat]
def k0_off17 (i : grid0.Coords) (c0_i32_415 : BitVec 32) : Fin 2 → Nat :=
  let c16 : Index := 16#32
  let arg1 : BitVec 32 := BitVec.ofNat 32 (i 1).val
  let c4_i32_414 : BitVec 32 := 4#32
  let v771 : BitVec 32 := Scalar.muli arg1 c4_i32_414
  let v772 : BitVec 32 := Scalar.addi v771 c0_i32_415
  let v773 : Index := Scalar.indexCast v772
  ![16, v773.toNat]
def k0_off18 (i : grid0.Coords) (c0_i32_441 : BitVec 32) : Fin 2 → Nat :=
  let c17 : Index := 17#32
  let arg1 : BitVec 32 := BitVec.ofNat 32 (i 1).val
  let c4_i32_440 : BitVec 32 := 4#32
  let v819 : BitVec 32 := Scalar.muli arg1 c4_i32_440
  let v820 : BitVec 32 := Scalar.addi v819 c0_i32_441
  let v821 : Index := Scalar.indexCast v820
  ![17, v821.toNat]
def k0_off19 (i : grid0.Coords) (c0_i32_467 : BitVec 32) : Fin 2 → Nat :=
  let c18 : Index := 18#32
  let arg1 : BitVec 32 := BitVec.ofNat 32 (i 1).val
  let c4_i32_466 : BitVec 32 := 4#32
  let v867 : BitVec 32 := Scalar.muli arg1 c4_i32_466
  let v868 : BitVec 32 := Scalar.addi v867 c0_i32_467
  let v869 : Index := Scalar.indexCast v868
  ![18, v869.toNat]
def k0_off20 (i : grid0.Coords) (c0_i32_493 : BitVec 32) : Fin 2 → Nat :=
  let c19 : Index := 19#32
  let arg1 : BitVec 32 := BitVec.ofNat 32 (i 1).val
  let c4_i32_492 : BitVec 32 := 4#32
  let v915 : BitVec 32 := Scalar.muli arg1 c4_i32_492
  let v916 : BitVec 32 := Scalar.addi v915 c0_i32_493
  let v917 : Index := Scalar.indexCast v916
  ![19, v917.toNat]
def k0_off21 (i : grid0.Coords) (c0_i32_519 : BitVec 32) : Fin 2 → Nat :=
  let c20 : Index := 20#32
  let arg1 : BitVec 32 := BitVec.ofNat 32 (i 1).val
  let c4_i32_518 : BitVec 32 := 4#32
  let v963 : BitVec 32 := Scalar.muli arg1 c4_i32_518
  let v964 : BitVec 32 := Scalar.addi v963 c0_i32_519
  let v965 : Index := Scalar.indexCast v964
  ![20, v965.toNat]
def k0_off22 (i : grid0.Coords) (c0_i32_545 : BitVec 32) : Fin 2 → Nat :=
  let c21 : Index := 21#32
  let arg1 : BitVec 32 := BitVec.ofNat 32 (i 1).val
  let c4_i32_544 : BitVec 32 := 4#32
  let v1011 : BitVec 32 := Scalar.muli arg1 c4_i32_544
  let v1012 : BitVec 32 := Scalar.addi v1011 c0_i32_545
  let v1013 : Index := Scalar.indexCast v1012
  ![21, v1013.toNat]
def k0_off23 (i : grid0.Coords) (c0_i32_571 : BitVec 32) : Fin 2 → Nat :=
  let c22 : Index := 22#32
  let arg1 : BitVec 32 := BitVec.ofNat 32 (i 1).val
  let c4_i32_570 : BitVec 32 := 4#32
  let v1059 : BitVec 32 := Scalar.muli arg1 c4_i32_570
  let v1060 : BitVec 32 := Scalar.addi v1059 c0_i32_571
  let v1061 : Index := Scalar.indexCast v1060
  ![22, v1061.toNat]
def k0_off24 (i : grid0.Coords) (c0_i32_597 : BitVec 32) : Fin 2 → Nat :=
  let c23 : Index := 23#32
  let arg1 : BitVec 32 := BitVec.ofNat 32 (i 1).val
  let c4_i32_596 : BitVec 32 := 4#32
  let v1107 : BitVec 32 := Scalar.muli arg1 c4_i32_596
  let v1108 : BitVec 32 := Scalar.addi v1107 c0_i32_597
  let v1109 : Index := Scalar.indexCast v1108
  ![23, v1109.toNat]
def k0_off25 (i : grid0.Coords) (c0_i32_623 : BitVec 32) : Fin 2 → Nat :=
  let c24 : Index := 24#32
  let arg1 : BitVec 32 := BitVec.ofNat 32 (i 1).val
  let c4_i32_622 : BitVec 32 := 4#32
  let v1155 : BitVec 32 := Scalar.muli arg1 c4_i32_622
  let v1156 : BitVec 32 := Scalar.addi v1155 c0_i32_623
  let v1157 : Index := Scalar.indexCast v1156
  ![24, v1157.toNat]
def k0_off26 (i : grid0.Coords) (c0_i32_649 : BitVec 32) : Fin 2 → Nat :=
  let c25 : Index := 25#32
  let arg1 : BitVec 32 := BitVec.ofNat 32 (i 1).val
  let c4_i32_648 : BitVec 32 := 4#32
  let v1203 : BitVec 32 := Scalar.muli arg1 c4_i32_648
  let v1204 : BitVec 32 := Scalar.addi v1203 c0_i32_649
  let v1205 : Index := Scalar.indexCast v1204
  ![25, v1205.toNat]
def k0_off27 (i : grid0.Coords) (c0_i32_675 : BitVec 32) : Fin 2 → Nat :=
  let c26 : Index := 26#32
  let arg1 : BitVec 32 := BitVec.ofNat 32 (i 1).val
  let c4_i32_674 : BitVec 32 := 4#32
  let v1251 : BitVec 32 := Scalar.muli arg1 c4_i32_674
  let v1252 : BitVec 32 := Scalar.addi v1251 c0_i32_675
  let v1253 : Index := Scalar.indexCast v1252
  ![26, v1253.toNat]
def k0_off28 (i : grid0.Coords) (c0_i32_701 : BitVec 32) : Fin 2 → Nat :=
  let c27 : Index := 27#32
  let arg1 : BitVec 32 := BitVec.ofNat 32 (i 1).val
  let c4_i32_700 : BitVec 32 := 4#32
  let v1299 : BitVec 32 := Scalar.muli arg1 c4_i32_700
  let v1300 : BitVec 32 := Scalar.addi v1299 c0_i32_701
  let v1301 : Index := Scalar.indexCast v1300
  ![27, v1301.toNat]
@[reducible] def k0_t1_loop : Scf.Loop 32 :=
  let c0_i32_730 : BitVec 32 := 0#32
  let c128_i32 : BitVec 32 := 128#32
  let v1353 : BitVec 32 := Scalar.addi c0_i32_730 c128_i32
  let c1_i32_731 : BitVec 32 := 1#32
  ⟨c0_i32_730, v1353, c1_i32_731⟩
def k0_off29 (k0_t1 : Fin k0_t1_loop.trips) : Fin 1 → Nat :=
  let c0_i32_730 : BitVec 32 := 0#32
  let c1_i32_731 : BitVec 32 := 1#32
  let arg14 : BitVec 32 := Scf.iv c0_i32_730 c1_i32_731 k0_t1
  let v1359 : Index := Scalar.indexCast arg14
  ![v1359.toNat]
def k0_off30 (k0_t1 : Fin k0_t1_loop.trips) : Fin 2 → Nat :=
  let c0_i32_730 : BitVec 32 := 0#32
  let c1_i32_731 : BitVec 32 := 1#32
  let arg14 : BitVec 32 := Scf.iv c0_i32_730 c1_i32_731 k0_t1
  let v1366 : Index := Scalar.indexCast arg14
  let c0_742 : Index := 0#32
  ![v1366.toNat, 0]
def k0_off31 (v1360 : BitVec 32) : Fin 2 → Nat :=
  let c1_i32_739 : BitVec 32 := 1#32
  let v1361 : BitVec 32 := Scalar.shrsi v1360 c1_i32_739
  let c1_i32_740 : BitVec 32 := 1#32
  let v1362 : BitVec 32 := Scalar.shli v1361 c1_i32_740
  let v1369 : Index := Scalar.indexCast v1362
  let c0_743 : Index := 0#32
  ![v1369.toNat, 0]

def k0_chk1 (v1360 : BitVec 32) : Prop :=
  (∀ a, (k0_off31 v1360) a + S2x512.size a ≤ S3584x512.size a) ∧
  (∀ (hinb : ∀ a, (k0_off31 v1360) a + S2x512.size a ≤ S3584x512.size a), (Rect.unit (s := S3584x512) (k0_off31 v1360) S2x512.size hinb).PackedRows (EltTy.packing .bf16))
theorem k0_off31_inb : ∀ (v1360 : BitVec 32) (k0_hw1 : k0_chk1 v1360), ∀ a, (k0_off31 v1360) a + S2x512.size a ≤ S3584x512.size a := fun v1360 k0_hw1 => k0_hw1.1
theorem k0_off31_packedbf16 : ∀ (v1360 : BitVec 32) (k0_hw1 : k0_chk1 v1360), (Rect.unit (s := S3584x512) (k0_off31 v1360) S2x512.size (k0_off31_inb v1360 k0_hw1)).PackedRows (EltTy.packing .bf16) := fun v1360 k0_hw1 => k0_hw1.2 (k0_off31_inb v1360 k0_hw1)

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S28x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3584x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x28 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S6x1024x3584 : Shape := ⟨3, ![6, 1024, 3584]⟩
abbrev S128 : Shape := ⟨1, ![128]⟩
abbrev S128x17024 : Shape := ⟨2, ![128, 17024]⟩
abbrev S3584x17024 : Shape := ⟨2, ![3584, 17024]⟩
abbrev S28x133 : Shape := ⟨2, ![28, 133]⟩
abbrev S6144x3584 : Shape := ⟨2, ![6144, 3584]⟩
abbrev S_ : Shape := ⟨0, ![]⟩
abbrev S128x1 : Shape := ⟨2, ![128, 1]⟩
abbrev S6144x128 : Shape := ⟨2, ![6144, 128]⟩
abbrev S6144x28x128 : Shape := ⟨3, ![6144, 28, 128]⟩
abbrev S6144x28 : Shape := ⟨2, ![6144, 28]⟩
abbrev S6144x17024 : Shape := ⟨2, ![6144, 17024]⟩
abbrev S6144x28x1 : Shape := ⟨3, ![6144, 28, 1]⟩
abbrev S28x128x133x128 : Shape := ⟨4, ![28, 128, 133, 128]⟩
abbrev S28x1x133x1 : Shape := ⟨4, ![28, 1, 133, 1]⟩

abbrev nBuf : Space → Nat
  | .hbm => 60
  | .vmem => 10
  | .smem => 0
  | _ => 0

abbrev bufTy : (tb : Table) → Fin (tcTables nBuf tb) → BufTy
  | .hbm, ⟨0, _⟩ => ⟨S6x1024x3584, .bf16⟩
  | .hbm, ⟨1, _⟩ => ⟨S128, .i32⟩
  | .hbm, ⟨2, _⟩ => ⟨S128x17024, .bf16⟩
  | .hbm, ⟨3, _⟩ => ⟨S3584x17024, .fp8e4m3⟩
  | .hbm, ⟨4, _⟩ => ⟨S28x133, .f32⟩
  | .hbm, ⟨5, _⟩ => ⟨S6144x3584, .bf16⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S6144x128, .bf16⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S_, .bf16⟩
  | .hbm, ⟨24, _⟩ => ⟨S6144x128, .bf16⟩
  | .hbm, ⟨25, _⟩ => ⟨S6144x3584, .bf16⟩
  | .hbm, ⟨26, _⟩ => ⟨S6144x3584, .f32⟩
  | .hbm, ⟨27, _⟩ => ⟨S6144x28x128, .f32⟩
  | .hbm, ⟨28, _⟩ => ⟨S6144x28x128, .f32⟩
  | .hbm, ⟨29, _⟩ => ⟨S_, .f32⟩
  | .hbm, ⟨30, _⟩ => ⟨S6144x28, .f32⟩
  | .hbm, ⟨31, _⟩ => ⟨S_, .f32⟩
  | .hbm, ⟨32, _⟩ => ⟨S6144x28, .f32⟩
  | .hbm, ⟨33, _⟩ => ⟨S6144x28, .f32⟩
  | .hbm, ⟨34, _⟩ => ⟨S_, .f32⟩
  | .hbm, ⟨35, _⟩ => ⟨S6144x28, .f32⟩
  | .hbm, ⟨36, _⟩ => ⟨S6144x28, .i1⟩
  | .hbm, ⟨37, _⟩ => ⟨S6144x28, .f32⟩
  | .hbm, ⟨38, _⟩ => ⟨S_, .f32⟩
  | .hbm, ⟨39, _⟩ => ⟨S_, .f32⟩
  | .hbm, ⟨40, _⟩ => ⟨S6144x28, .f32⟩
  | .hbm, ⟨41, _⟩ => ⟨S6144x28, .f32⟩
  | .hbm, ⟨42, _⟩ => ⟨S6144x28, .f32⟩
  | .hbm, ⟨43, _⟩ => ⟨S_, .f32⟩
  | .hbm, ⟨44, _⟩ => ⟨S6144x28, .f32⟩
  | .hbm, ⟨45, _⟩ => ⟨S6144x28, .f32⟩
  | .hbm, ⟨46, _⟩ => ⟨S_, .f32⟩
  | .hbm, ⟨47, _⟩ => ⟨S_, .f32⟩
  | .hbm, ⟨48, _⟩ => ⟨S6144x28, .f32⟩
  | .hbm, ⟨49, _⟩ => ⟨S6144x28, .f32⟩
  | .hbm, ⟨50, _⟩ => ⟨S_, .f32⟩
  | .hbm, ⟨51, _⟩ => ⟨S6144x28, .f32⟩
  | .hbm, ⟨52, _⟩ => ⟨S6144x28, .f32⟩
  | .hbm, ⟨53, _⟩ => ⟨S6144x28, .f32⟩
  | .hbm, ⟨54, _⟩ => ⟨S_, .f32⟩
  | .hbm, ⟨55, _⟩ => ⟨S6144x28, .f32⟩
  | .hbm, ⟨56, _⟩ => ⟨S6144x28, .f32⟩
  | .hbm, ⟨57, _⟩ => ⟨S6144x17024, .bf16⟩
  | .hbm, ⟨58, _⟩ => ⟨S6144x3584, .fp8e4m3⟩
  | .hbm, ⟨59, _⟩ => ⟨S6144x28, .f32⟩
  | .local _ .vmem, ⟨0, _⟩ => ⟨S6144x28x128, .f32⟩
  | .local _ .vmem, ⟨1, _⟩ => ⟨S6144x28, .f32⟩
  | .local _ .vmem, ⟨2, _⟩ => ⟨S6144x28, .f32⟩
  | .local _ .vmem, ⟨3, _⟩ => ⟨S6144x128, .bf16⟩
  | .local _ .vmem, ⟨4, _⟩ => ⟨S128x17024, .bf16⟩
  | .local _ .vmem, ⟨5, _⟩ => ⟨S3584x17024, .fp8e4m3⟩
  | .local _ .vmem, ⟨6, _⟩ => ⟨S28x133, .f32⟩
  | .local _ .vmem, ⟨7, _⟩ => ⟨S6144x17024, .bf16⟩
  | .local _ .vmem, ⟨8, _⟩ => ⟨S6144x3584, .fp8e4m3⟩
  | .local _ .vmem, ⟨9, _⟩ => ⟨S6144x28, .f32⟩
  | _, _ => ⟨S6x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6144x28x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x17024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x17024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28x133 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x17024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x28 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.P.Setup.lean ====
/- What the runs of the kernel body of `Kernel` are stated over: the condition of its one branch in closed form, the
   staging buffer of each window at a grid point, the scratch buffers, and the fact assumed of the outlier channel numbers.
   The grid has 204 points, 6 row tiles times 34 column tiles, the column tile moving fastest. -/
module

public import proofs.«01_k».proof.Proof.Gen.Kernel.Frame
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken: the point is at column tile 0, where the row tile is quantised. -/
abbrev first (i : grid0.Coords) : Prop := k0_cond1 i = 1#1

theorem first_iff : ∀ t : Fin cfg0.N, first (grid0.coords t) ↔ t.val % 34 = 0 := by decide +kernel

/-- The row tile and the column tile of a point. -/
theorem coord0 : ∀ t : Fin cfg0.N, (grid0.coords t 0).val = t.val / 34 := by decide +kernel
theorem coord1 : ∀ t : Fin cfg0.N, (grid0.coords t 1).val = t.val % 34 := by decide +kernel

/-! Each window's current staging buffer at a point, and that it is a whole buffer. -/

abbrev ms0 (t : Fin cfg0.N) : Memref sig .tc .smem S128 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S28x136 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x3584 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S3584x512 .fp8e4m3 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x3584 .fp8e4m3 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x28 .f32 := win0_8.stage (cfg0.slots t 8)
abbrev hs8 (t : Fin cfg0.N) : (ms8 t).IsWhole := hstage0_8 ((cfg0.slots t 8).cast nbuf0_8)

/-! The scratch buffers: the quantised row tile, the weight tile, and the outlier weights widened. -/

abbrev sc0 : Memref sig .tc .vmem S1024x3584 .bf16 := Memref.whole cc0_scratch0
abbrev hsc0 : (sc0).IsWhole := Memref.isWhole_whole _
abbrev sc1 : Memref sig .tc .vmem S3584x512 .bf16 := Memref.whole cc0_scratch1
abbrev hsc1 : (sc1).IsWhole := Memref.isWhole_whole _
abbrev sc2 : Memref sig .tc .vmem S128x512 .f32 := Memref.whole cc0_scratch2
abbrev hsc2 : (sc2).IsWhole := Memref.isWhole_whole _

/-- Every outlier channel number the body reads from `x0` is a row of the weight tile. -/
abbrev InRange (arg2 : Memref sig .tc .smem S128 .i32) (harg2 : arg2.IsWhole) (x0 : Vec F S128 .i32) : Prop :=
  ∀ (kq : ℕ) (hkq : kq < k0_t1_loop.trips), k0_chk1 (arg2.view.readAt (Elt F) (Rect.unit (s := S128) (k0_off29 ⟨kq, hkq⟩) S1.size (k0_off29_inb ⟨kq, hkq⟩)).toLoadRect (harg2.unread x0) (Shape.Idx.first (numel1_S1.symm ▸ Nat.one_pos)))

end Cert.Kernel.Run

end
-- ==== Proof.P.RunA.lean ====
/- The kernel body of `Kernel` at a point of column tile 0: it quantises the row tile, then builds the weight tile and multiplies. -/
module

public import proofs.«01_k».proof.Proof.P.Setup

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 5524000 in
/-- The body's triple with the pieces it stores as witness. It leaves its inputs in place and stores pieces `L6` of the product tile, `L7` of the
    codes, `L8` of the scales and `LS` of the quantised row tile in scratch; of the other scratch buffers nothing is said. -/
noncomputable def runA (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : first i)
    (x0 : Vec F S128 .i32) (x1 : Vec F S28x136 .f32) (x2 : Vec F S1024x3584 .bf16) (x3 : Vec F S128x1 .i32) (x4 : Vec F S128x512 .bf16) (x5 : Vec F S3584x512 .fp8e4m3) (hidx : InRange arg2 harg2 x0) :
    Σ' (L6 : List (View.Piece (Elt F) S1024x512 .bf16)), Σ' (L7 : List (View.Piece (Elt F) S1024x3584 .fp8e4m3)), Σ' (L8 : List (View.Piece (Elt F) S1024x28 .f32)), { LS : List (View.Piece (Elt F) S1024x3584 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS) ∗ (∃ d, owns (c : Thread nD τ) arg12 fullShare d) ∗ (∃ d, owns (c : Thread nD τ) arg13 fullShare d)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__kernel_eq_skeleton]; unfold cc0__kernel_skel
    simp only [k0_part81_eq_skeleton, k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    isplitl [HS1]
    · iexists _, _; isplitr; swap; · iexact HS1
      ipureintro; rfl
    iexists _, _; isplitr; swap; · iexact HS2
    ipureintro; rfl

end Cert.Kernel.Run

end
-- ==== Proof.P.RunB.lean ====
/- The kernel body of `Kernel` at a point of a later column tile: it reuses the quantised row tile it finds in scratch. -/
module

public import proofs.«01_k».proof.Proof.P.RunA

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 5524000 in
/-- The body's triple with the pieces it stores as witness. It leaves its inputs and the quantised row tile `xs` in place and stores pieces `L6` of
    the product tile; of the other scratch buffers nothing is said. -/
noncomputable def runB (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : ¬ first i)
    (x0 : Vec F S128 .i32) (x1 : Vec F S28x136 .f32) (x2 : Vec F S1024x3584 .bf16) (x3 : Vec F S128x1 .i32) (x4 : Vec F S128x512 .bf16) (x5 : Vec F S3584x512 .fp8e4m3) (xs : Vec F S1024x3584 .bf16) (hidx : InRange arg2 harg2 x0) :
    { L6 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg11 fullShare xs ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg11 fullShare xs ∗ (∃ d, owns (c : Thread nD τ) arg12 fullShare d) ∗ (∃ d, owns (c : Thread nD τ) arg13 fullShare d)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__kernel_eq_skeleton]; unfold cc0__kernel_skel
    simp only [k0_part81_eq_skeleton, k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg11.read_unread _
      iexact HS0
    isplitl [HS1]
    · iexists _, _; isplitr; swap; · iexact HS1
      ipureintro; rfl
    iexists _, _; isplitr; swap; · iexact HS2
    ipureintro; rfl

end Cert.Kernel.Run

end
-- ==== Proof.P.Body.lean ====
/- The pipeline of `Kernel` run with relational proof data: what the body leaves in the three output windows at a point, and in the
   scratch that holds the quantised row tile, is held to predicates of one's choice (`Claims`). The blocks of the two weight windows overhang their arrays in the
   last column tile, so what those staging buffers hold past the array's edge has no name: the predicates must hold whatever it is. -/
module

public import proofs.«01_k».proof.Proof.P.RunB

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The predicates: `S c i` of the scratch that holds row tile `i` quantised, `P6 c t` of the product tile left at point `t`, `P7 c i` and `P8 c i` of
    the codes and the scales of row tile `i`. -/
structure Claims (F : FTy → Type) where
  S : Dev nD → ℕ → Vec F S1024x3584 .bf16 → Prop
  P6 : Dev nD → Fin cfg0.N → Vec F S1024x512 .bf16 → Prop
  P7 : Dev nD → ℕ → Vec F S1024x3584 .fp8e4m3 → Prop
  P8 : Dev nD → ℕ → Vec F S1024x28 .f32 → Prop

/-- What the staging buffer of the outlier weights holds at point `t`: the array's block, and `d` past the array's edge. -/
abbrev held4 (c : Dev nD) (t : Fin cfg0.N) (d : Vec F S128x512 .bf16) : Vec F S128x512 .bf16 := (cfg0.win 4).fill (cfg0.grid.coords t) d (iblk m c 4 t)
/-- What the staging buffer of the weight codes holds at point `t`: the array's block, and `d` past the array's edge. -/
abbrev held5 (c : Dev nD) (t : Fin cfg0.N) (d : Vec F S3584x512 .fp8e4m3) : Vec F S3584x512 .fp8e4m3 := (cfg0.win 5).fill (cfg0.grid.coords t) d (iblk m c 5 t)

/-- The outlier channel numbers the body reads are in range, at every point. -/
def Hyps : Prop := ∀ (c : Dev nD) (t : Fin cfg0.N), InRange (F := F) (ms0 t) (hs0 t) (iblk m c 0 t)

/-- What the body leaves at a point of column tile 0 meets the predicates. -/
def HoldsA (hH : Hyps m) (C : Claims F) : Prop :=
  ∀ (c : Dev nD) (t : Fin cfg0.N) (hc : first (grid0.coords t)) (d4 : Vec F S128x512 .bf16) (d5 : Vec F S3584x512 .fp8e4m3),
    (∀ f, C.P6 c t ((ms6 t).view.read (Elt F) ((ms6 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).1)))
    ∧ (∀ f, C.P7 c (t.val / 34) ((ms7 t).view.read (Elt F) ((ms7 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).2.1)))
    ∧ (∀ f, C.P8 c (t.val / 34) ((ms8 t).view.read (Elt F) ((ms8 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).2.2.1)))
    ∧ (∀ f, C.S c (t.val / 34) (sc0.view.read (Elt F) (sc0.view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).2.2.2.1)))

/-- What the body leaves at a point of a later column tile meets the predicates, the quantised row tile found meeting its own. -/
def HoldsB (hH : Hyps m) (C : Claims F) : Prop :=
  ∀ (c : Dev nD) (t : Fin cfg0.N) (hc : ¬ first (grid0.coords t)) (d4 : Vec F S128x512 .bf16) (d5 : Vec F S3584x512 .fp8e4m3) (xs : Vec F S1024x3584 .bf16),
    C.S c (t.val / 34) xs → ∀ f, C.P6 c t ((ms6 t).view.read (Elt F) ((ms6 t).view.writes (Elt F) f (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) xs (hH c t)).1))

/-- The invariant before point `t`: past column tile 0 the first scratch buffer holds the row tile quantised. -/
def Phi (C : Claims F) (c : Dev nD) (t : ℕ) : sProp 𝕄 :=
  iprop(iprop((∃ d, ⌜t % 34 ≠ 0 → C.S c (t / 34) d⌝ ∗ owns (c : Thread nD τ) sc0 fullShare d) ∗ (∃ d, owns (c : Thread nD τ) sc1 fullShare d) ∗ (∃ d, owns (c : Thread nD τ) sc2 fullShare d)) ∗ (∃ r, prngReg c r))

/-- What the body may leave in window `w` at point `t`, having found `Y` there: an input as it was, an output anything that meets its predicate. -/
def after (C : Claims F) (c : Dev nD) : (w : Fin cfg0.W) → Fin cfg0.N → (Y X : (cfg0.win w).block.Idx → Elt F (cfg0.win w).elt) → Prop
  | 0, _, Y, X => X = Y
  | 1, _, Y, X => X = Y
  | 2, _, Y, X => X = Y
  | 3, _, Y, X => X = Y
  | 4, _, Y, X => X = Y
  | 5, _, Y, X => X = Y
  | 6, t, _, X => C.P6 c t X
  | 7, t, _, X => C.P7 c (t.val / 34) X
  | 8, t, _, X => C.P8 c (t.val / 34) X
  | ⟨_ + 9, h⟩, _, _, _ => absurd h (Nat.not_lt.2 (Nat.le_add_left _ _))

/-- The relational proof data. -/
def rdat (C : Claims F) (c : Dev nD) : Pipeline.RDat τ (Elt F) Unit ℕ (UR sig nD τ) ℕ cfg0 c where
  A w := V m c (Pipeline.arrRef spec0 w)
  after := after C c
  Φ t := Phi C c t.val
  q _ := fullShare
  owed _ := 0

/-- The frame's invariant with the scratch buffers owned as memrefs. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem Phi_in (C : Claims F) (c : Dev nD) : Pipeline.ΦA spec0 c ⊢ Phi C c 0 := by
  rw [PhiA_eq]; unfold Phi
  iintro ⟨⟨⟨%d, H0⟩, H1, H2⟩, Hg⟩
  isplitl [H0 H1 H2]
  · isplitl [H0]
    · iexists d; isplitr
      · ipureintro; exact fun h => absurd rfl h
      · iexact H0
    isplitl [H1]; · iexact H1
    iexact H2
  iexact Hg

theorem Phi_out (C : Claims F) (c : Dev nD) (t : ℕ) : Phi C c t ⊢ Pipeline.ΦA spec0 c := by
  rw [PhiA_eq]; unfold Phi
  iintro ⟨⟨⟨%d, -, H0⟩, H1, H2⟩, Hg⟩
  isplitl [H0 H1 H2]
  · isplitl [H0]; · iexists d; iexact H0
    isplitl [H1]; · iexact H1
    iexact H2
  iexact Hg

theorem finds0 (C : Claims F) (c : Dev nD) (t : Fin cfg0.N) (Y) (h : (rdat m C c).Finds 0 t Y) : Y = iblk m c 0 t := by
  obtain ⟨d, hd⟩ := (rdat m C c).finds_in_eq_fetched 0 rfl (fun _ _ _ => rfl) (fun _ _ _ h => h) t Y h
  exact hd.trans rfl
theorem finds1 (C : Claims F) (c : Dev nD) (t : Fin cfg0.N) (Y) (h : (rdat m C c).Finds 1 t Y) : Y = iblk m c 1 t := by
  obtain ⟨d, hd⟩ := (rdat m C c).finds_in_eq_fetched 1 rfl (fun _ _ _ => rfl) (fun _ _ _ h => h) t Y h
  exact hd.trans rfl
theorem finds2 (C : Claims F) (c : Dev nD) (t : Fin cfg0.N) (Y) (h : (rdat m C c).Finds 2 t Y) : Y = iblk m c 2 t := by
  obtain ⟨d, hd⟩ := (rdat m C c).finds_in_eq_fetched 2 rfl (fun _ _ _ => rfl) (fun _ _ _ h => h) t Y h
  exact hd.trans rfl
theorem finds3 (C : Claims F) (c : Dev nD) (t : Fin cfg0.N) (Y) (h : (rdat m C c).Finds 3 t Y) : Y = iblk m c 3 t := by
  obtain ⟨d, hd⟩ := (rdat m C c).finds_in_eq_fetched 3 rfl (fun _ _ _ => rfl) (fun _ _ _ h => h) t Y h
  exact hd.trans rfl
theorem clip4 : ∀ t t' : Fin cfg0.N, (cfg0.win 4).index t = (cfg0.win 4).index t' → (cfg0.win 4).clip (cfg0.grid.coords t) = (cfg0.win 4).clip (cfg0.grid.coords t') := by
  intro t t' h
  have h' : cc0_transform_4 (grid0.coords t) = cc0_transform_4 (grid0.coords t') := h
  show (fun a => Pipeline.Clip.of (cc0_transform_4 (grid0.coords t) a) (S128x512.size a) (S128x17024.size a)) = _
  rw [h']; rfl
theorem finds4 (C : Claims F) (c : Dev nD) (t : Fin cfg0.N) (Y) (h : (rdat m C c).Finds 4 t Y) : ∃ d, Y = held4 m c t d := by
  obtain ⟨d, hd⟩ := (rdat m C c).finds_in_eq_fetched 4 rfl clip4 (fun _ _ _ h => h) t Y h
  exact ⟨d, hd.trans rfl⟩
theorem clip5 : ∀ t t' : Fin cfg0.N, (cfg0.win 5).index t = (cfg0.win 5).index t' → (cfg0.win 5).clip (cfg0.grid.coords t) = (cfg0.win 5).clip (cfg0.grid.coords t') := by
  intro t t' h
  have h' : cc0_transform_5 (grid0.coords t) = cc0_transform_5 (grid0.coords t') := h
  show (fun a => Pipeline.Clip.of (cc0_transform_5 (grid0.coords t) a) (S3584x512.size a) (S3584x17024.size a)) = _
  rw [h']; rfl
theorem finds5 (C : Claims F) (c : Dev nD) (t : Fin cfg0.N) (Y) (h : (rdat m C c).Finds 5 t Y) : ∃ d, Y = held5 m c t d := by
  obtain ⟨d, hd⟩ := (rdat m C c).finds_in_eq_fetched 5 rfl clip5 (fun _ _ _ h => h) t Y h
  exact ⟨d, hd.trans rfl⟩
/-- Past column tile 0 output window 7 still holds what was left at the row tile's first point. -/
theorem finds7 (C : Claims F) (c : Dev nD) (t : Fin cfg0.N) (ht : t.val % 34 ≠ 0) (Y) (h : (rdat m C c).Finds 7 t Y) : C.P7 c (t.val / 34) Y := by
  have h0 : t.val ≠ 0 := fun e => ht (by rw [e])
  have hd : (t.val - 1) / 34 = t.val / 34 := by omega
  rcases ((rdat m C c).finds_of_pos (w := 7) (Pipeline.Window.fetch_out _ rfl t) h0 Y).mp h with hf | ⟨_, _, hl⟩
  · exact absurd ((flush0_7 _).mp hf) (by show (t.val - 1) % 34 ≠ 33; omega)
  · exact hd ▸ hl
/-- Past column tile 0 output window 8 still holds what was left at the row tile's first point. -/
theorem finds8 (C : Claims F) (c : Dev nD) (t : Fin cfg0.N) (ht : t.val % 34 ≠ 0) (Y) (h : (rdat m C c).Finds 8 t Y) : C.P8 c (t.val / 34) Y := by
  have h0 : t.val ≠ 0 := fun e => ht (by rw [e])
  have hd : (t.val - 1) / 34 = t.val / 34 := by omega
  rcases ((rdat m C c).finds_of_pos (w := 8) (Pipeline.Window.fetch_out _ rfl t) h0 Y).mp h with hf | ⟨_, _, hl⟩
  · exact absurd ((flush0_8 _).mp hf) (by show (t.val - 1) % 34 ≠ 33; omega)
  · exact hd ▸ hl
set_option maxHeartbeats 1000000 in
/-- The body's triple at a point of column tile 0, its windows owned at what it finds there. -/
theorem soundA (hH : Hyps m) (C : Claims F) (hA : HoldsA m hH C) (c : Dev nD) (t : Fin cfg0.N) (hc : first (grid0.coords t))
    (Y : (w : Fin cfg0.W) → (cfg0.win w).block.Idx → Elt F (cfg0.win w).elt) (hY : ∀ w, (rdat m C c).Finds w t (Y w)) :
    iprop(Phi C c t.val ∗ (rdat m C c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8))
      ⊢ wp frame (wpE (defs₀ (F := F)) Variants.none c none) Set.univ (bodyAt0 t) (fun _ =>
          iprop(Phi C c (t.val + 1) ∗ (rdat m C c).owesAt () t.castSucc ∗ (∃ X, ⌜after C c 0 t (Y 0) X⌝ ∗ owns (c : Thread nD τ) (ms0 t) fullShare X) ∗ (∃ X, ⌜after C c 1 t (Y 1) X⌝ ∗ owns (c : Thread nD τ) (ms1 t) fullShare X) ∗ (∃ X, ⌜after C c 2 t (Y 2) X⌝ ∗ owns (c : Thread nD τ) (ms2 t) fullShare X) ∗ (∃ X, ⌜after C c 3 t (Y 3) X⌝ ∗ owns (c : Thread nD τ) (ms3 t) fullShare X) ∗ (∃ X, ⌜after C c 4 t (Y 4) X⌝ ∗ owns (c : Thread nD τ) (ms4 t) fullShare X) ∗ (∃ X, ⌜after C c 5 t (Y 5) X⌝ ∗ owns (c : Thread nD τ) (ms5 t) fullShare X) ∗ (∃ X, ⌜after C c 6 t (Y 6) X⌝ ∗ owns (c : Thread nD τ) (ms6 t) fullShare X) ∗ (∃ X, ⌜after C c 7 t (Y 7) X⌝ ∗ owns (c : Thread nD τ) (ms7 t) fullShare X) ∗ (∃ X, ⌜after C c 8 t (Y 8) X⌝ ∗ owns (c : Thread nD τ) (ms8 t) fullShare X))) := by
  have ht : t.val % 34 = 0 := (first_iff t).mp hc
  have hd : (t.val + 1) % 34 ≠ 0 → (t.val + 1) / 34 = t.val / 34 := fun h => by omega
  have e0 := finds0 m C c t (Y 0) (hY 0)
  have e1 := finds1 m C c t (Y 1) (hY 1)
  have e2 := finds2 m C c t (Y 2) (hY 2)
  have e3 := finds3 m C c t (Y 3) (hY 3)
  obtain ⟨d4, e4⟩ := finds4 m C c t (Y 4) (hY 4)
  obtain ⟨d5, e5⟩ := finds5 m C c t (Y 5) (hY 5)
  rw [e0, e1, e2, e3, e4, e5]
  unfold bodyAt0
  obtain ⟨h6, h7, h8, hS⟩ := hA c t hc d4 d5
  conv_lhs => unfold Phi
  iintro ⟨⟨⟨⟨%s0, %hs0', HS0⟩, HS1, HS2⟩, Hg⟩, Ho, H0, H1, H2, H3, H4, H5, H6, H7, H8⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexists _; iexact HS0
  isplitl [HS1]; · iexact HS1
  isplitl [HS2]; · iexact HS2
  iintro ⟨H0, H1, H2, H3, H4, H5, ⟨%f6, H6⟩, ⟨%f7, H7⟩, ⟨%f8, H8⟩, ⟨%fs, HS0⟩, HS1, HS2⟩
  isplitl [HS0 HS1 HS2 Hg]
  · unfold Phi
    isplitl [HS0 HS1 HS2]
    · isplitl [HS0]
      · iexists _; isplitr
        · ipureintro; exact fun h => (hd h).symm ▸ hS fs
        · unfold owns; iexists _; isplitr
          swap; · iexact HS0
          ipureintro; rfl
      isplitl [HS1]; · iexact HS1
      iexact HS2
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap
    · unfold owns; iexists _; isplitr
      swap; · iexact H6
      ipureintro; rfl
    ipureintro; exact h6 f6
  isplitl [H7]
  · iexists _; isplitr
    swap
    · unfold owns; iexists _; isplitr
      swap; · iexact H7
      ipureintro; rfl
    ipureintro; exact h7 f7
  iexists _; isplitr
  swap
  · unfold owns; iexists _; isplitr
    swap; · iexact H8
    ipureintro; rfl
  ipureintro; exact h8 f8

set_option maxHeartbeats 1000000 in
/-- The body's triple at a point of a later column tile, its windows owned at what it finds there. -/
theorem soundB (hH : Hyps m) (C : Claims F) (hB : HoldsB m hH C) (c : Dev nD) (t : Fin cfg0.N) (hc : ¬ first (grid0.coords t))
    (Y : (w : Fin cfg0.W) → (cfg0.win w).block.Idx → Elt F (cfg0.win w).elt) (hY : ∀ w, (rdat m C c).Finds w t (Y w)) :
    iprop(Phi C c t.val ∗ (rdat m C c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8))
      ⊢ wp frame (wpE (defs₀ (F := F)) Variants.none c none) Set.univ (bodyAt0 t) (fun _ =>
          iprop(Phi C c (t.val + 1) ∗ (rdat m C c).owesAt () t.castSucc ∗ (∃ X, ⌜after C c 0 t (Y 0) X⌝ ∗ owns (c : Thread nD τ) (ms0 t) fullShare X) ∗ (∃ X, ⌜after C c 1 t (Y 1) X⌝ ∗ owns (c : Thread nD τ) (ms1 t) fullShare X) ∗ (∃ X, ⌜after C c 2 t (Y 2) X⌝ ∗ owns (c : Thread nD τ) (ms2 t) fullShare X) ∗ (∃ X, ⌜after C c 3 t (Y 3) X⌝ ∗ owns (c : Thread nD τ) (ms3 t) fullShare X) ∗ (∃ X, ⌜after C c 4 t (Y 4) X⌝ ∗ owns (c : Thread nD τ) (ms4 t) fullShare X) ∗ (∃ X, ⌜after C c 5 t (Y 5) X⌝ ∗ owns (c : Thread nD τ) (ms5 t) fullShare X) ∗ (∃ X, ⌜after C c 6 t (Y 6) X⌝ ∗ owns (c : Thread nD τ) (ms6 t) fullShare X) ∗ (∃ X, ⌜after C c 7 t (Y 7) X⌝ ∗ owns (c : Thread nD τ) (ms7 t) fullShare X) ∗ (∃ X, ⌜after C c 8 t (Y 8) X⌝ ∗ owns (c : Thread nD τ) (ms8 t) fullShare X))) := by
  have ht : ¬ t.val % 34 = 0 := fun h => hc ((first_iff t).mpr h)
  have hd : (t.val + 1) % 34 ≠ 0 → (t.val + 1) / 34 = t.val / 34 := fun h => by omega
  have e0 := finds0 m C c t (Y 0) (hY 0)
  have e1 := finds1 m C c t (Y 1) (hY 1)
  have e2 := finds2 m C c t (Y 2) (hY 2)
  have e3 := finds3 m C c t (Y 3) (hY 3)
  obtain ⟨d4, e4⟩ := finds4 m C c t (Y 4) (hY 4)
  obtain ⟨d5, e5⟩ := finds5 m C c t (Y 5) (hY 5)
  rw [e0, e1, e2, e3, e4, e5]
  unfold bodyAt0
  have h7 := finds7 m C c t ht (Y 7) (hY 7)
  have h8 := finds8 m C c t ht (Y 8) (hY 8)
  conv_lhs => unfold Phi
  iintro ⟨⟨⟨⟨%s0, %hs0', HS0⟩, HS1, HS2⟩, Hg⟩, Ho, H0, H1, H2, H3, H4, H5, H6, H7, H8⟩
  have h6 := hB c t hc d4 d5 s0 (hs0' ht)
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) s0 (hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%f6, H6⟩, HS0, HS1, HS2⟩
  isplitl [HS0 HS1 HS2 Hg]
  · unfold Phi
    isplitl [HS0 HS1 HS2]
    · isplitl [HS0]
      · iexists s0; isplitr
        · ipureintro; exact fun h => (hd h).symm ▸ hs0' ht
        · iexact HS0
      isplitl [HS1]; · iexact HS1
      iexact HS2
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap
    · unfold owns; iexists _; isplitr
      swap; · iexact H6
      ipureintro; rfl
    ipureintro; exact h6 f6
  isplitl [H7]
  · iexists _; isplitr
    swap; · iexact H7
    ipureintro; exact h7
  iexists _; isplitr
  swap; · iexact H8
  ipureintro; exact h8

/-- The body table's row at point `t`'s slots is the body as `bodyAt0` spells it. -/
theorem defs_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hH : Hyps m) (C : Claims F) (hA : HoldsA m hH C) (hB : HoldsB m hH C) (c : Dev nD) :
    (rdat m C c).BodyObligation (defs₀ (F := F)) Variants.none () Set.univ := fun t Y hY => by
  rw [bigSep_W0, bigSep_W0, defs_row]
  by_cases hc : first (grid0.coords t)
  · exact triple_restated (soundA m hH C hA c t hc Y hY) rfl .rfl fun _ => .rfl
  · exact triple_restated (soundB m hH C hB c t hc Y hY) rfl .rfl fun _ => .rfl

set_option backward.isDefEq.respectTransparency.types false in
/-- THE RUN: every weakly fair execution of @main terminates, every final state has each array at something the predicates allow and every other unscoped buffer as
    the region found it, and every semaphore counter at zero. -/
theorem run_main (hH : Hyps m) (C : Claims F) (hA : HoldsA m hH C) (hB : HoldsB m hH C) :
    θ_run defs (onTc (τ := τ) (main (F := F))) (s₀ m ρ) (fun r => Pipeline.RDat.FramePost cfg0 (rdat m C) (V m) r ∧ r.2.sem = fun _ => 0) :=
  Pipeline.RDat.θ_run_frame_track (Q' := _) cfgs (0 : Fin 1) launch0 defs₀ Variants.none (rdat m C) m ρ main
    (hbody := body_obligation m hH C hA hB) (hshare := fun c => (rdat m C c).share_full fun _ => rfl)
    (howed := fun _ _ => rfl) (V := V m) (hmain := hmain m Variants.none) (hA := fun _ _ => rfl)
    (hin := fun c => Phi_in C c) (hout := fun c => Phi_out C c _)

/-- The argument arrays end unchanged. -/
theorem unchanged (C : Claims F) (r : PUnit × MemSt nD τ sig (Elt F)) (h : Pipeline.RDat.FramePost cfg0 (rdat m C) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (Pipeline.RDat.FramePost.arr_in h c 0 rfl).trans (V_main_arg1 m c),
    (Pipeline.RDat.FramePost.arr_in h c 4 rfl).trans (V_main_arg2 m c),
    (Pipeline.RDat.FramePost.arr_in h c 5 rfl).trans (V_main_arg3 m c),
    ((h c).2 main_arg4 (Pipeline.mem_restRefs_of main_arg4 (by decide) (by decide))).trans (V_main_arg4 m c)⟩

/-- THE FRAME: the program runs, its argument arrays end unchanged and every semaphore counter at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨unchanged m _ r h.1, h.2⟩)
    (run_main m ρ hH ⟨fun _ _ _ => True, fun _ _ _ => True, fun _ _ _ => True, fun _ _ _ => True⟩
      (fun _ _ _ _ _ => ⟨fun _ => trivial, fun _ => trivial, fun _ => trivial, fun _ => trivial⟩) (fun _ _ _ _ _ _ _ _ => trivial))

end Cert.Kernel.Run

end
-- ==== Proof.Pre.lean ====
/- What the two preconditions say of the argument arrays: the outlier channel numbers are below 3584, and, under the second, they are
   distinct and every element of `x` is at most the largest finite bfloat16 in absolute value. Also the words the kernel computes from a
   channel number: the first row of the pair of rows it lies in, and which of the two it is. -/
module

public import proofs.«01_k».proof.Defs
public import proofs.«01_k».proof.Proof.Gen.Pre_channels_in_range
public import proofs.«01_k».proof.Proof.Gen.Pre_distinct_channels_finite_x
public import Idealize.ShloMosaic.Lib.WordCmp
public import Idealize.ShloMosaic.Lib.ReduceAll

@[expose] public section

noncomputable section

namespace Cert.Words

open Idealize.ShloMosaic Idealize.ShloMosaic.WordCmp

/-- Halving and doubling a small word rounds it down to an even number. -/
theorem pair_toNat (w : BitVec 32) (h : w.toNat < 3584) : (Scalar.indexCast (Scalar.shli (Scalar.shrsi w 1#32) 1#32)).toNat = 2 * (w.toNat / 2) := by
  have h1 : Scalar.shrsi w 1#32 = BitVec.ofNat 32 (w.toNat / 2) := by
    apply BitVec.eq_of_toInt_eq
    show (w.sshiftRight 1).toInt = _
    rw [BitVec.toInt_sshiftRight, toInt_eq_toNat_of_lt_half (by omega), toInt_eq_toNat_of_lt_half (by simp; omega)]
    simp [Int.shiftRight_eq_div_pow]
    omega
  rw [h1]
  show (BitVec.ofNat 32 (w.toNat / 2) <<< 1#32).toNat = _
  simp [BitVec.toNat_shiftLeft, Nat.shiftLeft_eq]
  omega

/-- The lowest bit of a word is its parity. -/
theorem parity_toNat (w : BitVec 32) : (Scalar.andi w 1#32).toNat = w.toNat % 2 := by
  show (w &&& 1#32).toNat = _
  simp [BitVec.toNat_and, Nat.and_one_is_mod]

/-- A word that is at least 0 and below 3584, signed, is below 3584 unsigned. -/
theorem lt_of_signed (w : BitVec 32) (h0 : IntOp.cmpi .sge w 0#32 = 1#1) (h1 : IntOp.cmpi .slt w 3584#32 = 1#1) : w.toNat < 3584 := by
  rw [cmpi_sge_eq, ofBool_decide_eq_ite] at h0
  rw [cmpi_slt_eq, ofBool_decide_eq_ite] at h1
  have a : (0#32).toInt ≤ w.toInt := by by_contra hn; rw [if_neg hn] at h0; exact absurd h0 (by decide)
  have b : w.toInt < (3584#32).toInt := by by_contra hn; rw [if_neg hn] at h1; exact absurd h1 (by decide)
  have ha : (0#32).toInt = 0 := by decide
  have hb : (3584#32).toInt = 3584 := by decide
  rw [ha] at a; rw [hb] at b
  rw [BitVec.toInt_eq_toNat_cond] at a b
  have := w.isLt
  split at a <;> simp_all <;> omega

/-- The first precondition: every channel number is in range. -/
theorem range_of_pre {F : FTy → Type} [FloatOps F] (a0 a1 a2 a3 a4)
    (h : Cert.Pre_channels_in_range.fn (F := F) a0 a1 a2 a3 a4 = fun _ => 1#1) (k : Cert.Pre_channels_in_range.S128.Idx) : (a1 k).toNat < 3584 := by
  have e := congrFun h k
  unfold Cert.Pre_channels_in_range.fn at e
  obtain ⟨e0, e1⟩ := IntOp.andi_eq_one.1 e
  exact lt_of_signed _ e0 e1

open Cert.Pre_distinct_channels_finite_x in
/-- The second precondition, its two conjuncts taken apart. -/
theorem split_of_pre {F : FTy → Type} [FloatOps F] (a0 a1 a2 a3 a4)
    (h : Cert.Pre_distinct_channels_finite_x.fn (F := F) a0 a1 a2 a3 a4 = fun _ => 1#1) :
    (∀ k : S128.Idx, (a1 k).toNat < 3584)
    ∧ (∀ k l : S128.Idx, a1 k = a1 l → k = l)
    ∧ (∀ i : S6x1024x3584.Idx, FloatOps.cmpf .ole (Host.absf a0 i) (FloatOps.ofBits .bf16 0x7F7F#16) = 1#1) := by
  have e := congrFun h (Shape.Idx.first Cert.Pre_distinct_channels_finite_x.Facts.h_S_)
  unfold Cert.Pre_distinct_channels_finite_x.fn at e
  obtain ⟨e1, e2⟩ := IntOp.andi_eq_one.1 e
  haveI : Subsingleton S_.Idx := ⟨fun a b => funext fun x => x.elim0⟩
  have p1 := fun i => Host.reduce_andi_all _ _ _ _ _ e1 i
  have p2 := fun i => Host.reduce_andi_all _ _ _ _ _ e2 i
  have q : ∀ k l : S128.Idx, (IntOp.cmpi .sge (a1 k) 0#32 = 1#1 ∧ IntOp.cmpi .slt (a1 k) 3584#32 = 1#1)
      ∧ (IntOp.cmpi .ne (a1 k) (a1 l) ||| IntOp.cmpi .eq (BitVec.ofNat 32 (k 0).val) (BitVec.ofNat 32 (l 0).val)) = 1#1 := by
    intro k l
    have e := p1 (fun a => match a with | ⟨0, _⟩ => k 0 | ⟨1, _⟩ => l 0)
    obtain ⟨e3, e4⟩ := IntOp.andi_eq_one.1 e
    obtain ⟨e5, e6⟩ := IntOp.andi_eq_one.1 e3
    have hk : ∀ j : S128x128.Idx, (j 0).val = (k 0).val → broadcastInDim S128x128 ![0] Cert.Pre_distinct_channels_finite_x.Facts.bcast_S128_S128x128_0 a1 j = a1 k := fun j hj => by
      refine congrArg a1 (funext fun a => ?_)
      fin_cases a
      exact Fin.ext hj
    have hl : ∀ j : S128x128.Idx, (j 1).val = (l 0).val → broadcastInDim S128x128 ![1] Cert.Pre_distinct_channels_finite_x.Facts.bcast_S128_S128x128_1 a1 j = a1 l := fun j hj => by
      refine congrArg a1 (funext fun a => ?_)
      fin_cases a
      exact Fin.ext hj
    refine ⟨⟨?_, ?_⟩, ?_⟩
    · rw [← hk (fun a => match a with | ⟨0, _⟩ => k 0 | ⟨1, _⟩ => l 0) rfl]; exact e5
    · rw [← hk (fun a => match a with | ⟨0, _⟩ => k 0 | ⟨1, _⟩ => l 0) rfl]; exact e6
    · rw [← hk (fun a => match a with | ⟨0, _⟩ => k 0 | ⟨1, _⟩ => l 0) rfl, ← hl (fun a => match a with | ⟨0, _⟩ => k 0 | ⟨1, _⟩ => l 0) rfl]; exact e4
  refine ⟨fun k => lt_of_signed _ (q k k).1.1 (q k k).1.2, fun k l hkl => ?_, fun i => p2 i⟩
  have e := (q k l).2
  rw [hkl, cmpi_ne_eq, cmpi_eq_eq, ofBool_decide_eq_ite, ofBool_decide_eq_ite, if_neg (by simp)] at e
  have hkl' : BitVec.ofNat 32 (k 0).val = BitVec.ofNat 32 (l 0).val := by
    by_contra hn; rw [if_neg hn] at e; exact absurd e (by decide)
  have h0 := congrArg BitVec.toNat hkl'
  have hk : (k 0).val < 128 := (k 0).isLt
  have hl : (l 0).val < 128 := (l 0).isLt
  simp only [BitVec.toNat_ofNat] at h0
  funext a
  fin_cases a
  exact Fin.ext (by show (k 0).val = (l 0).val; omega)

end Cert.Words

end
-- ==== Proof.P.Chk.lean ====
/- The side condition `Kernel`'s body states of the outlier channel numbers it reads, from the preconditions. -/
module

public import proofs.«01_k».proof.Proof.P.Body
public import proofs.«01_k».proof.Proof.Pre

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A channel number below 3584 names a pair of rows inside the weight tile, starting at an even row. -/
theorem chk_of_lt (w : BitVec 32) (h : w.toNat < 3584) : k0_chk1 w := by
  have h0 : (k0_off31 w) 0 = 2 * (w.toNat / 2) := Cert.Words.pair_toNat w h
  have h1 : (k0_off31 w) 1 = 0 := rfl
  refine ⟨fun a => ?_, fun hinb => .inr ⟨le_refl _, rfl, .inl ⟨?_, ?_⟩⟩⟩
  · fin_cases a
    · show (k0_off31 w) 0 + 2 ≤ 3584; omega
    · show (k0_off31 w) 1 + 512 ≤ 512; omega
  · show 2 ∣ (k0_off31 w) 0
    exact ⟨_, h0⟩
  · show 2 ∣ 2
    exact ⟨1, rfl⟩

/-- Trip `k` reads element `k` of the channel numbers, and row `k` of the outlier weights. -/
theorem off29 : ∀ k : Fin k0_t1_loop.trips, k0_off29 k 0 = k.val := by decide +kernel
theorem off30 : ∀ k : Fin k0_t1_loop.trips, k0_off30 k 0 = k.val := by decide +kernel

/-- The channel number the loop reads in trip `k` is element `k` of the buffer. -/
theorem word_eq (arg2 : Memref sig .tc .smem S128 .i32) (harg2 : arg2.IsWhole) (x0 : Vec F S128 .i32) (kq : ℕ) (hkq : kq < k0_t1_loop.trips) (h : kq < 128) :
    arg2.view.readAt (Elt F) (Rect.unit (s := S128) (k0_off29 ⟨kq, hkq⟩) S1.size (k0_off29_inb ⟨kq, hkq⟩)).toLoadRect (harg2.unread x0) (Shape.Idx.first (numel1_S1.symm ▸ Nat.one_pos))
      = x0 (fun a => ⟨kq, by fin_cases a; exact h⟩) := by
  rw [View.readAt_eq_ld, harg2.read_unread]
  refine congrArg x0 (funext fun a => Fin.ext ?_)
  fin_cases a
  exact (Nat.add_zero _).trans (off29 ⟨kq, hkq⟩)

/-- The block of the channel numbers is the argument array. -/
theorem iblk0 (c : Dev nD) (t : Fin cfg0.N) (k : S128.Idx) : iblk m c 0 t k = m ((c.tc : Thread nD τ).loc main_arg1) k := by
  unfold iblk
  rw [show V m c (Pipeline.arrRef spec0 0) = _ from V_main_arg1 m c]
  refine congrArg (m ((c.tc : Thread nD τ).loc main_arg1)) (funext fun a => Fin.ext ?_)
  fin_cases a
  show 0 * 128 + 1 * (k 0).val = (k 0).val
  omega

/-- With every channel number below 3584 the body's side condition holds at every point. -/
theorem hyps_of (h : ∀ (c : Dev nD) (k : S128.Idx), (m ((c.tc : Thread nD τ).loc main_arg1) k : BitVec 32).toNat < 3584) : Hyps m := by
  intro c t kq hkq
  have hk : kq < 128 := hkq
  rw [word_eq _ _ _ kq hkq hk, iblk0]
  exact chk_of_lt _ (h c _)

end Cert.Kernel.Run

end
-- ==== Proof.PI.Setup.lean ====
/- What the runs of the kernel body of `KernelIdeal` are stated over: the condition of its one branch in closed form, the
   staging buffer of each window at a grid point, the scratch buffers, and the fact assumed of the outlier channel numbers.
   The grid has 204 points, 6 row tiles times 34 column tiles, the column tile moving fastest. -/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken: the point is at column tile 0, where the row tile is quantised. -/
abbrev first (i : grid0.Coords) : Prop := k0_cond1 i = 1#1

theorem first_iff : ∀ t : Fin cfg0.N, first (grid0.coords t) ↔ t.val % 34 = 0 := by decide +kernel

/-- The row tile and the column tile of a point. -/
theorem coord0 : ∀ t : Fin cfg0.N, (grid0.coords t 0).val = t.val / 34 := by decide +kernel
theorem coord1 : ∀ t : Fin cfg0.N, (grid0.coords t 1).val = t.val % 34 := by decide +kernel

/-! Each window's current staging buffer at a point, and that it is a whole buffer. -/

abbrev ms0 (t : Fin cfg0.N) : Memref sig .tc .smem S128 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S28x136 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x3584 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S3584x512 .fp8e4m3 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x3584 .fp8e4m3 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x28 .f32 := win0_8.stage (cfg0.slots t 8)
abbrev hs8 (t : Fin cfg0.N) : (ms8 t).IsWhole := hstage0_8 ((cfg0.slots t 8).cast nbuf0_8)

/-! The scratch buffers: the quantised row tile, the weight tile, and the outlier weights widened. -/

abbrev sc0 : Memref sig .tc .vmem S1024x3584 .bf16 := Memref.whole cc0_scratch0
abbrev hsc0 : (sc0).IsWhole := Memref.isWhole_whole _
abbrev sc1 : Memref sig .tc .vmem S3584x512 .bf16 := Memref.whole cc0_scratch1
abbrev hsc1 : (sc1).IsWhole := Memref.isWhole_whole _
abbrev sc2 : Memref sig .tc .vmem S128x512 .f32 := Memref.whole cc0_scratch2
abbrev hsc2 : (sc2).IsWhole := Memref.isWhole_whole _

/-- Every outlier channel number the body reads from `x0` is a row of the weight tile. -/
abbrev InRange (arg2 : Memref sig .tc .smem S128 .i32) (harg2 : arg2.IsWhole) (x0 : Vec F S128 .i32) : Prop :=
  ∀ (kq : ℕ) (hkq : kq < k0_t1_loop.trips), k0_chk1 (arg2.view.readAt (Elt F) (Rect.unit (s := S128) (k0_off29 ⟨kq, hkq⟩) S1.size (k0_off29_inb ⟨kq, hkq⟩)).toLoadRect (harg2.unread x0) (Shape.Idx.first (numel1_S1.symm ▸ Nat.one_pos)))

end Cert.KernelIdeal.Run

end
-- ==== Proof.PI.RunA.lean ====
/- The kernel body of `KernelIdeal` at a point of column tile 0: it quantises the row tile, then builds the weight tile and multiplies. -/
module

public import proofs.«01_k».proof.Proof.PI.Setup

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 5524000 in
/-- The body's triple with the pieces it stores as witness. It leaves its inputs in place and stores pieces `L6` of the product tile, `L7` of the
    codes, `L8` of the scales and `LS` of the quantised row tile in scratch; of the other scratch buffers nothing is said. -/
noncomputable def runA (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : first i)
    (x0 : Vec F S128 .i32) (x1 : Vec F S28x136 .f32) (x2 : Vec F S1024x3584 .bf16) (x3 : Vec F S128x1 .i32) (x4 : Vec F S128x512 .bf16) (x5 : Vec F S3584x512 .fp8e4m3) (hidx : InRange arg2 harg2 x0) :
    Σ' (L6 : List (View.Piece (Elt F) S1024x512 .bf16)), Σ' (L7 : List (View.Piece (Elt F) S1024x3584 .fp8e4m3)), Σ' (L8 : List (View.Piece (Elt F) S1024x28 .f32)), { LS : List (View.Piece (Elt F) S1024x3584 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS) ∗ (∃ d, owns (c : Thread nD τ) arg12 fullShare d) ∗ (∃ d, owns (c : Thread nD τ) arg13 fullShare d)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__kernel_eq_skeleton]; unfold cc0__kernel_skel
    simp only [k0_part81_eq_skeleton, k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    isplitl [HS1]
    · iexists _, _; isplitr; swap; · iexact HS1
      ipureintro; rfl
    iexists _, _; isplitr; swap; · iexact HS2
    ipureintro; rfl

end Cert.KernelIdeal.Run

end
-- ==== Proof.PI.RunB.lean ====
/- The kernel body of `KernelIdeal` at a point of a later column tile: it reuses the quantised row tile it finds in scratch. -/
module

public import proofs.«01_k».proof.Proof.PI.RunA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 5524000 in
/-- The body's triple with the pieces it stores as witness. It leaves its inputs and the quantised row tile `xs` in place and stores pieces `L6` of
    the product tile; of the other scratch buffers nothing is said. -/
noncomputable def runB (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : ¬ first i)
    (x0 : Vec F S128 .i32) (x1 : Vec F S28x136 .f32) (x2 : Vec F S1024x3584 .bf16) (x3 : Vec F S128x1 .i32) (x4 : Vec F S128x512 .bf16) (x5 : Vec F S3584x512 .fp8e4m3) (xs : Vec F S1024x3584 .bf16) (hidx : InRange arg2 harg2 x0) :
    { L6 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg11 fullShare xs ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg11 fullShare xs ∗ (∃ d, owns (c : Thread nD τ) arg12 fullShare d) ∗ (∃ d, owns (c : Thread nD τ) arg13 fullShare d)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__kernel_eq_skeleton]; unfold cc0__kernel_skel
    simp only [k0_part81_eq_skeleton, k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg11.read_unread _
      iexact HS0
    isplitl [HS1]
    · iexists _, _; isplitr; swap; · iexact HS1
      ipureintro; rfl
    iexists _, _; isplitr; swap; · iexact HS2
    ipureintro; rfl

end Cert.KernelIdeal.Run

end
-- ==== Proof.PI.Body.lean ====
/- The pipeline of `KernelIdeal` run with relational proof data: what the body leaves in the three output windows at a point, and in the
   scratch that holds the quantised row tile, is held to predicates of one's choice (`Claims`). The blocks of the two weight windows overhang their arrays in the
   last column tile, so what those staging buffers hold past the array's edge has no name: the predicates must hold whatever it is. -/
module

public import proofs.«01_k».proof.Proof.PI.RunB

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The predicates: `S c i` of the scratch that holds row tile `i` quantised, `P6 c t` of the product tile left at point `t`, `P7 c i` and `P8 c i` of
    the codes and the scales of row tile `i`. -/
structure Claims (F : FTy → Type) where
  S : Dev nD → ℕ → Vec F S1024x3584 .bf16 → Prop
  P6 : Dev nD → Fin cfg0.N → Vec F S1024x512 .bf16 → Prop
  P7 : Dev nD → ℕ → Vec F S1024x3584 .fp8e4m3 → Prop
  P8 : Dev nD → ℕ → Vec F S1024x28 .f32 → Prop

/-- What the staging buffer of the outlier weights holds at point `t`: the array's block, and `d` past the array's edge. -/
abbrev held4 (c : Dev nD) (t : Fin cfg0.N) (d : Vec F S128x512 .bf16) : Vec F S128x512 .bf16 := (cfg0.win 4).fill (cfg0.grid.coords t) d (iblk m c 4 t)
/-- What the staging buffer of the weight codes holds at point `t`: the array's block, and `d` past the array's edge. -/
abbrev held5 (c : Dev nD) (t : Fin cfg0.N) (d : Vec F S3584x512 .fp8e4m3) : Vec F S3584x512 .fp8e4m3 := (cfg0.win 5).fill (cfg0.grid.coords t) d (iblk m c 5 t)

/-- The outlier channel numbers the body reads are in range, at every point. -/
def Hyps : Prop := ∀ (c : Dev nD) (t : Fin cfg0.N), InRange (F := F) (ms0 t) (hs0 t) (iblk m c 0 t)

/-- What the body leaves at a point of column tile 0 meets the predicates. -/
def HoldsA (hH : Hyps m) (C : Claims F) : Prop :=
  ∀ (c : Dev nD) (t : Fin cfg0.N) (hc : first (grid0.coords t)) (d4 : Vec F S128x512 .bf16) (d5 : Vec F S3584x512 .fp8e4m3),
    (∀ f, C.P6 c t ((ms6 t).view.read (Elt F) ((ms6 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).1)))
    ∧ (∀ f, C.P7 c (t.val / 34) ((ms7 t).view.read (Elt F) ((ms7 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).2.1)))
    ∧ (∀ f, C.P8 c (t.val / 34) ((ms8 t).view.read (Elt F) ((ms8 t).view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).2.2.1)))
    ∧ (∀ f, C.S c (t.val / 34) (sc0.view.read (Elt F) (sc0.view.writes (Elt F) f (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).2.2.2.1)))

/-- What the body leaves at a point of a later column tile meets the predicates, the quantised row tile found meeting its own. -/
def HoldsB (hH : Hyps m) (C : Claims F) : Prop :=
  ∀ (c : Dev nD) (t : Fin cfg0.N) (hc : ¬ first (grid0.coords t)) (d4 : Vec F S128x512 .bf16) (d5 : Vec F S3584x512 .fp8e4m3) (xs : Vec F S1024x3584 .bf16),
    C.S c (t.val / 34) xs → ∀ f, C.P6 c t ((ms6 t).view.read (Elt F) ((ms6 t).view.writes (Elt F) f (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) xs (hH c t)).1))

/-- The invariant before point `t`: past column tile 0 the first scratch buffer holds the row tile quantised. -/
def Phi (C : Claims F) (c : Dev nD) (t : ℕ) : sProp 𝕄 :=
  iprop(iprop((∃ d, ⌜t % 34 ≠ 0 → C.S c (t / 34) d⌝ ∗ owns (c : Thread nD τ) sc0 fullShare d) ∗ (∃ d, owns (c : Thread nD τ) sc1 fullShare d) ∗ (∃ d, owns (c : Thread nD τ) sc2 fullShare d)) ∗ (∃ r, prngReg c r))

/-- What the body may leave in window `w` at point `t`, having found `Y` there: an input as it was, an output anything that meets its predicate. -/
def after (C : Claims F) (c : Dev nD) : (w : Fin cfg0.W) → Fin cfg0.N → (Y X : (cfg0.win w).block.Idx → Elt F (cfg0.win w).elt) → Prop
  | 0, _, Y, X => X = Y
  | 1, _, Y, X => X = Y
  | 2, _, Y, X => X = Y
  | 3, _, Y, X => X = Y
  | 4, _, Y, X => X = Y
  | 5, _, Y, X => X = Y
  | 6, t, _, X => C.P6 c t X
  | 7, t, _, X => C.P7 c (t.val / 34) X
  | 8, t, _, X => C.P8 c (t.val / 34) X
  | ⟨_ + 9, h⟩, _, _, _ => absurd h (Nat.not_lt.2 (Nat.le_add_left _ _))

/-- The relational proof data. -/
def rdat (C : Claims F) (c : Dev nD) : Pipeline.RDat τ (Elt F) Unit ℕ (UR sig nD τ) ℕ cfg0 c where
  A w := V m c (Pipeline.arrRef spec0 w)
  after := after C c
  Φ t := Phi C c t.val
  q _ := fullShare
  owed _ := 0

/-- The frame's invariant with the scratch buffers owned as memrefs. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem Phi_in (C : Claims F) (c : Dev nD) : Pipeline.ΦA spec0 c ⊢ Phi C c 0 := by
  rw [PhiA_eq]; unfold Phi
  iintro ⟨⟨⟨%d, H0⟩, H1, H2⟩, Hg⟩
  isplitl [H0 H1 H2]
  · isplitl [H0]
    · iexists d; isplitr
      · ipureintro; exact fun h => absurd rfl h
      · iexact H0
    isplitl [H1]; · iexact H1
    iexact H2
  iexact Hg

theorem Phi_out (C : Claims F) (c : Dev nD) (t : ℕ) : Phi C c t ⊢ Pipeline.ΦA spec0 c := by
  rw [PhiA_eq]; unfold Phi
  iintro ⟨⟨⟨%d, -, H0⟩, H1, H2⟩, Hg⟩
  isplitl [H0 H1 H2]
  · isplitl [H0]; · iexists d; iexact H0
    isplitl [H1]; · iexact H1
    iexact H2
  iexact Hg

theorem finds0 (C : Claims F) (c : Dev nD) (t : Fin cfg0.N) (Y) (h : (rdat m C c).Finds 0 t Y) : Y = iblk m c 0 t := by
  obtain ⟨d, hd⟩ := (rdat m C c).finds_in_eq_fetched 0 rfl (fun _ _ _ => rfl) (fun _ _ _ h => h) t Y h
  exact hd.trans rfl
theorem finds1 (C : Claims F) (c : Dev nD) (t : Fin cfg0.N) (Y) (h : (rdat m C c).Finds 1 t Y) : Y = iblk m c 1 t := by
  obtain ⟨d, hd⟩ := (rdat m C c).finds_in_eq_fetched 1 rfl (fun _ _ _ => rfl) (fun _ _ _ h => h) t Y h
  exact hd.trans rfl
theorem finds2 (C : Claims F) (c : Dev nD) (t : Fin cfg0.N) (Y) (h : (rdat m C c).Finds 2 t Y) : Y = iblk m c 2 t := by
  obtain ⟨d, hd⟩ := (rdat m C c).finds_in_eq_fetched 2 rfl (fun _ _ _ => rfl) (fun _ _ _ h => h) t Y h
  exact hd.trans rfl
theorem finds3 (C : Claims F) (c : Dev nD) (t : Fin cfg0.N) (Y) (h : (rdat m C c).Finds 3 t Y) : Y = iblk m c 3 t := by
  obtain ⟨d, hd⟩ := (rdat m C c).finds_in_eq_fetched 3 rfl (fun _ _ _ => rfl) (fun _ _ _ h => h) t Y h
  exact hd.trans rfl
theorem clip4 : ∀ t t' : Fin cfg0.N, (cfg0.win 4).index t = (cfg0.win 4).index t' → (cfg0.win 4).clip (cfg0.grid.coords t) = (cfg0.win 4).clip (cfg0.grid.coords t') := by
  intro t t' h
  have h' : cc0_transform_4 (grid0.coords t) = cc0_transform_4 (grid0.coords t') := h
  show (fun a => Pipeline.Clip.of (cc0_transform_4 (grid0.coords t) a) (S128x512.size a) (S128x17024.size a)) = _
  rw [h']; rfl
theorem finds4 (C : Claims F) (c : Dev nD) (t : Fin cfg0.N) (Y) (h : (rdat m C c).Finds 4 t Y) : ∃ d, Y = held4 m c t d := by
  obtain ⟨d, hd⟩ := (rdat m C c).finds_in_eq_fetched 4 rfl clip4 (fun _ _ _ h => h) t Y h
  exact ⟨d, hd.trans rfl⟩
theorem clip5 : ∀ t t' : Fin cfg0.N, (cfg0.win 5).index t = (cfg0.win 5).index t' → (cfg0.win 5).clip (cfg0.grid.coords t) = (cfg0.win 5).clip (cfg0.grid.coords t') := by
  intro t t' h
  have h' : cc0_transform_5 (grid0.coords t) = cc0_transform_5 (grid0.coords t') := h
  show (fun a => Pipeline.Clip.of (cc0_transform_5 (grid0.coords t) a) (S3584x512.size a) (S3584x17024.size a)) = _
  rw [h']; rfl
theorem finds5 (C : Claims F) (c : Dev nD) (t : Fin cfg0.N) (Y) (h : (rdat m C c).Finds 5 t Y) : ∃ d, Y = held5 m c t d := by
  obtain ⟨d, hd⟩ := (rdat m C c).finds_in_eq_fetched 5 rfl clip5 (fun _ _ _ h => h) t Y h
  exact ⟨d, hd.trans rfl⟩
/-- Past column tile 0 output window 7 still holds what was left at the row tile's first point. -/
theorem finds7 (C : Claims F) (c : Dev nD) (t : Fin cfg0.N) (ht : t.val % 34 ≠ 0) (Y) (h : (rdat m C c).Finds 7 t Y) : C.P7 c (t.val / 34) Y := by
  have h0 : t.val ≠ 0 := fun e => ht (by rw [e])
  have hd : (t.val - 1) / 34 = t.val / 34 := by omega
  rcases ((rdat m C c).finds_of_pos (w := 7) (Pipeline.Window.fetch_out _ rfl t) h0 Y).mp h with hf | ⟨_, _, hl⟩
  · exact absurd ((flush0_7 _).mp hf) (by show (t.val - 1) % 34 ≠ 33; omega)
  · exact hd ▸ hl
/-- Past column tile 0 output window 8 still holds what was left at the row tile's first point. -/
theorem finds8 (C : Claims F) (c : Dev nD) (t : Fin cfg0.N) (ht : t.val % 34 ≠ 0) (Y) (h : (rdat m C c).Finds 8 t Y) : C.P8 c (t.val / 34) Y := by
  have h0 : t.val ≠ 0 := fun e => ht (by rw [e])
  have hd : (t.val - 1) / 34 = t.val / 34 := by omega
  rcases ((rdat m C c).finds_of_pos (w := 8) (Pipeline.Window.fetch_out _ rfl t) h0 Y).mp h with hf | ⟨_, _, hl⟩
  · exact absurd ((flush0_8 _).mp hf) (by show (t.val - 1) % 34 ≠ 33; omega)
  · exact hd ▸ hl
set_option maxHeartbeats 1000000 in
/-- The body's triple at a point of column tile 0, its windows owned at what it finds there. -/
theorem soundA (hH : Hyps m) (C : Claims F) (hA : HoldsA m hH C) (c : Dev nD) (t : Fin cfg0.N) (hc : first (grid0.coords t))
    (Y : (w : Fin cfg0.W) → (cfg0.win w).block.Idx → Elt F (cfg0.win w).elt) (hY : ∀ w, (rdat m C c).Finds w t (Y w)) :
    iprop(Phi C c t.val ∗ (rdat m C c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8))
      ⊢ wp frame (wpE (defs₀ (F := F)) Variants.none c none) Set.univ (bodyAt0 t) (fun _ =>
          iprop(Phi C c (t.val + 1) ∗ (rdat m C c).owesAt () t.castSucc ∗ (∃ X, ⌜after C c 0 t (Y 0) X⌝ ∗ owns (c : Thread nD τ) (ms0 t) fullShare X) ∗ (∃ X, ⌜after C c 1 t (Y 1) X⌝ ∗ owns (c : Thread nD τ) (ms1 t) fullShare X) ∗ (∃ X, ⌜after C c 2 t (Y 2) X⌝ ∗ owns (c : Thread nD τ) (ms2 t) fullShare X) ∗ (∃ X, ⌜after C c 3 t (Y 3) X⌝ ∗ owns (c : Thread nD τ) (ms3 t) fullShare X) ∗ (∃ X, ⌜after C c 4 t (Y 4) X⌝ ∗ owns (c : Thread nD τ) (ms4 t) fullShare X) ∗ (∃ X, ⌜after C c 5 t (Y 5) X⌝ ∗ owns (c : Thread nD τ) (ms5 t) fullShare X) ∗ (∃ X, ⌜after C c 6 t (Y 6) X⌝ ∗ owns (c : Thread nD τ) (ms6 t) fullShare X) ∗ (∃ X, ⌜after C c 7 t (Y 7) X⌝ ∗ owns (c : Thread nD τ) (ms7 t) fullShare X) ∗ (∃ X, ⌜after C c 8 t (Y 8) X⌝ ∗ owns (c : Thread nD τ) (ms8 t) fullShare X))) := by
  have ht : t.val % 34 = 0 := (first_iff t).mp hc
  have hd : (t.val + 1) % 34 ≠ 0 → (t.val + 1) / 34 = t.val / 34 := fun h => by omega
  have e0 := finds0 m C c t (Y 0) (hY 0)
  have e1 := finds1 m C c t (Y 1) (hY 1)
  have e2 := finds2 m C c t (Y 2) (hY 2)
  have e3 := finds3 m C c t (Y 3) (hY 3)
  obtain ⟨d4, e4⟩ := finds4 m C c t (Y 4) (hY 4)
  obtain ⟨d5, e5⟩ := finds5 m C c t (Y 5) (hY 5)
  rw [e0, e1, e2, e3, e4, e5]
  unfold bodyAt0
  obtain ⟨h6, h7, h8, hS⟩ := hA c t hc d4 d5
  conv_lhs => unfold Phi
  iintro ⟨⟨⟨⟨%s0, %hs0', HS0⟩, HS1, HS2⟩, Hg⟩, Ho, H0, H1, H2, H3, H4, H5, H6, H7, H8⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexists _; iexact HS0
  isplitl [HS1]; · iexact HS1
  isplitl [HS2]; · iexact HS2
  iintro ⟨H0, H1, H2, H3, H4, H5, ⟨%f6, H6⟩, ⟨%f7, H7⟩, ⟨%f8, H8⟩, ⟨%fs, HS0⟩, HS1, HS2⟩
  isplitl [HS0 HS1 HS2 Hg]
  · unfold Phi
    isplitl [HS0 HS1 HS2]
    · isplitl [HS0]
      · iexists _; isplitr
        · ipureintro; exact fun h => (hd h).symm ▸ hS fs
        · unfold owns; iexists _; isplitr
          swap; · iexact HS0
          ipureintro; rfl
      isplitl [HS1]; · iexact HS1
      iexact HS2
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap
    · unfold owns; iexists _; isplitr
      swap; · iexact H6
      ipureintro; rfl
    ipureintro; exact h6 f6
  isplitl [H7]
  · iexists _; isplitr
    swap
    · unfold owns; iexists _; isplitr
      swap; · iexact H7
      ipureintro; rfl
    ipureintro; exact h7 f7
  iexists _; isplitr
  swap
  · unfold owns; iexists _; isplitr
    swap; · iexact H8
    ipureintro; rfl
  ipureintro; exact h8 f8

set_option maxHeartbeats 1000000 in
/-- The body's triple at a point of a later column tile, its windows owned at what it finds there. -/
theorem soundB (hH : Hyps m) (C : Claims F) (hB : HoldsB m hH C) (c : Dev nD) (t : Fin cfg0.N) (hc : ¬ first (grid0.coords t))
    (Y : (w : Fin cfg0.W) → (cfg0.win w).block.Idx → Elt F (cfg0.win w).elt) (hY : ∀ w, (rdat m C c).Finds w t (Y w)) :
    iprop(Phi C c t.val ∗ (rdat m C c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8))
      ⊢ wp frame (wpE (defs₀ (F := F)) Variants.none c none) Set.univ (bodyAt0 t) (fun _ =>
          iprop(Phi C c (t.val + 1) ∗ (rdat m C c).owesAt () t.castSucc ∗ (∃ X, ⌜after C c 0 t (Y 0) X⌝ ∗ owns (c : Thread nD τ) (ms0 t) fullShare X) ∗ (∃ X, ⌜after C c 1 t (Y 1) X⌝ ∗ owns (c : Thread nD τ) (ms1 t) fullShare X) ∗ (∃ X, ⌜after C c 2 t (Y 2) X⌝ ∗ owns (c : Thread nD τ) (ms2 t) fullShare X) ∗ (∃ X, ⌜after C c 3 t (Y 3) X⌝ ∗ owns (c : Thread nD τ) (ms3 t) fullShare X) ∗ (∃ X, ⌜after C c 4 t (Y 4) X⌝ ∗ owns (c : Thread nD τ) (ms4 t) fullShare X) ∗ (∃ X, ⌜after C c 5 t (Y 5) X⌝ ∗ owns (c : Thread nD τ) (ms5 t) fullShare X) ∗ (∃ X, ⌜after C c 6 t (Y 6) X⌝ ∗ owns (c : Thread nD τ) (ms6 t) fullShare X) ∗ (∃ X, ⌜after C c 7 t (Y 7) X⌝ ∗ owns (c : Thread nD τ) (ms7 t) fullShare X) ∗ (∃ X, ⌜after C c 8 t (Y 8) X⌝ ∗ owns (c : Thread nD τ) (ms8 t) fullShare X))) := by
  have ht : ¬ t.val % 34 = 0 := fun h => hc ((first_iff t).mpr h)
  have hd : (t.val + 1) % 34 ≠ 0 → (t.val + 1) / 34 = t.val / 34 := fun h => by omega
  have e0 := finds0 m C c t (Y 0) (hY 0)
  have e1 := finds1 m C c t (Y 1) (hY 1)
  have e2 := finds2 m C c t (Y 2) (hY 2)
  have e3 := finds3 m C c t (Y 3) (hY 3)
  obtain ⟨d4, e4⟩ := finds4 m C c t (Y 4) (hY 4)
  obtain ⟨d5, e5⟩ := finds5 m C c t (Y 5) (hY 5)
  rw [e0, e1, e2, e3, e4, e5]
  unfold bodyAt0
  have h7 := finds7 m C c t ht (Y 7) (hY 7)
  have h8 := finds8 m C c t ht (Y 8) (hY 8)
  conv_lhs => unfold Phi
  iintro ⟨⟨⟨⟨%s0, %hs0', HS0⟩, HS1, HS2⟩, Hg⟩, Ho, H0, H1, H2, H3, H4, H5, H6, H7, H8⟩
  have h6 := hB c t hc d4 d5 s0 (hs0' ht)
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) s0 (hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%f6, H6⟩, HS0, HS1, HS2⟩
  isplitl [HS0 HS1 HS2 Hg]
  · unfold Phi
    isplitl [HS0 HS1 HS2]
    · isplitl [HS0]
      · iexists s0; isplitr
        · ipureintro; exact fun h => (hd h).symm ▸ hs0' ht
        · iexact HS0
      isplitl [HS1]; · iexact HS1
      iexact HS2
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap
    · unfold owns; iexists _; isplitr
      swap; · iexact H6
      ipureintro; rfl
    ipureintro; exact h6 f6
  isplitl [H7]
  · iexists _; isplitr
    swap; · iexact H7
    ipureintro; exact h7
  iexists _; isplitr
  swap; · iexact H8
  ipureintro; exact h8

/-- The body table's row at point `t`'s slots is the body as `bodyAt0` spells it. -/
theorem defs_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hH : Hyps m) (C : Claims F) (hA : HoldsA m hH C) (hB : HoldsB m hH C) (c : Dev nD) :
    (rdat m C c).BodyObligation (defs₀ (F := F)) Variants.none () Set.univ := fun t Y hY => by
  rw [bigSep_W0, bigSep_W0, defs_row]
  by_cases hc : first (grid0.coords t)
  · exact triple_restated (soundA m hH C hA c t hc Y hY) rfl .rfl fun _ => .rfl
  · exact triple_restated (soundB m hH C hB c t hc Y hY) rfl .rfl fun _ => .rfl

set_option backward.isDefEq.respectTransparency.types false in
/-- THE RUN: every weakly fair execution of @main terminates, every final state has each array at something the predicates allow and every other unscoped buffer as
    the region found it, and every semaphore counter at zero. -/
theorem run_main (hH : Hyps m) (C : Claims F) (hA : HoldsA m hH C) (hB : HoldsB m hH C) :
    θ_run defs (onTc (τ := τ) (main (F := F))) (s₀ m ρ) (fun r => Pipeline.RDat.FramePost cfg0 (rdat m C) (V m) r ∧ r.2.sem = fun _ => 0) :=
  Pipeline.RDat.θ_run_frame_track (Q' := _) cfgs (0 : Fin 1) launch0 defs₀ Variants.none (rdat m C) m ρ main
    (hbody := body_obligation m hH C hA hB) (hshare := fun c => (rdat m C c).share_full fun _ => rfl)
    (howed := fun _ _ => rfl) (V := V m) (hmain := hmain m Variants.none) (hA := fun _ _ => rfl)
    (hin := fun c => Phi_in C c) (hout := fun c => Phi_out C c _)

/-- The argument arrays end unchanged. -/
theorem unchanged (C : Claims F) (r : PUnit × MemSt nD τ sig (Elt F)) (h : Pipeline.RDat.FramePost cfg0 (rdat m C) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (Pipeline.RDat.FramePost.arr_in h c 0 rfl).trans (V_main_arg1 m c),
    (Pipeline.RDat.FramePost.arr_in h c 4 rfl).trans (V_main_arg2 m c),
    (Pipeline.RDat.FramePost.arr_in h c 5 rfl).trans (V_main_arg3 m c),
    ((h c).2 main_arg4 (Pipeline.mem_restRefs_of main_arg4 (by decide) (by decide))).trans (V_main_arg4 m c)⟩

/-- THE FRAME: the program runs, its argument arrays end unchanged and every semaphore counter at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨unchanged m _ r h.1, h.2⟩)
    (run_main m ρ hH ⟨fun _ _ _ => True, fun _ _ _ => True, fun _ _ _ => True, fun _ _ _ => True⟩
      (fun _ _ _ _ _ => ⟨fun _ => trivial, fun _ => trivial, fun _ => trivial, fun _ => trivial⟩) (fun _ _ _ _ _ _ _ _ => trivial))

end Cert.KernelIdeal.Run

end
-- ==== Proof.PI.Chk.lean ====
/- The side condition `KernelIdeal`'s body states of the outlier channel numbers it reads, from the preconditions. -/
module

public import proofs.«01_k».proof.Proof.PI.Body
public import proofs.«01_k».proof.Proof.Pre

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A channel number below 3584 names a pair of rows inside the weight tile, starting at an even row. -/
theorem chk_of_lt (w : BitVec 32) (h : w.toNat < 3584) : k0_chk1 w := by
  have h0 : (k0_off31 w) 0 = 2 * (w.toNat / 2) := Cert.Words.pair_toNat w h
  have h1 : (k0_off31 w) 1 = 0 := rfl
  refine ⟨fun a => ?_, fun hinb => .inr ⟨le_refl _, rfl, .inl ⟨?_, ?_⟩⟩⟩
  · fin_cases a
    · show (k0_off31 w) 0 + 2 ≤ 3584; omega
    · show (k0_off31 w) 1 + 512 ≤ 512; omega
  · show 2 ∣ (k0_off31 w) 0
    exact ⟨_, h0⟩
  · show 2 ∣ 2
    exact ⟨1, rfl⟩

/-- Trip `k` reads element `k` of the channel numbers, and row `k` of the outlier weights. -/
theorem off29 : ∀ k : Fin k0_t1_loop.trips, k0_off29 k 0 = k.val := by decide +kernel
theorem off30 : ∀ k : Fin k0_t1_loop.trips, k0_off30 k 0 = k.val := by decide +kernel

/-- The channel number the loop reads in trip `k` is element `k` of the buffer. -/
theorem word_eq (arg2 : Memref sig .tc .smem S128 .i32) (harg2 : arg2.IsWhole) (x0 : Vec F S128 .i32) (kq : ℕ) (hkq : kq < k0_t1_loop.trips) (h : kq < 128) :
    arg2.view.readAt (Elt F) (Rect.unit (s := S128) (k0_off29 ⟨kq, hkq⟩) S1.size (k0_off29_inb ⟨kq, hkq⟩)).toLoadRect (harg2.unread x0) (Shape.Idx.first (numel1_S1.symm ▸ Nat.one_pos))
      = x0 (fun a => ⟨kq, by fin_cases a; exact h⟩) := by
  rw [View.readAt_eq_ld, harg2.read_unread]
  refine congrArg x0 (funext fun a => Fin.ext ?_)
  fin_cases a
  exact (Nat.add_zero _).trans (off29 ⟨kq, hkq⟩)

/-- The block of the channel numbers is the argument array. -/
theorem iblk0 (c : Dev nD) (t : Fin cfg0.N) (k : S128.Idx) : iblk m c 0 t k = m ((c.tc : Thread nD τ).loc main_arg1) k := by
  unfold iblk
  rw [show V m c (Pipeline.arrRef spec0 0) = _ from V_main_arg1 m c]
  refine congrArg (m ((c.tc : Thread nD τ).loc main_arg1)) (funext fun a => Fin.ext ?_)
  fin_cases a
  show 0 * 128 + 1 * (k 0).val = (k 0).val
  omega

/-- With every channel number below 3584 the body's side condition holds at every point. -/
theorem hyps_of (h : ∀ (c : Dev nD) (k : S128.Idx), (m ((c.tc : Thread nD τ).loc main_arg1) k : BitVec 32).toNat < 3584) : Hyps m := by
  intro c t kq hkq
  have hk : kq < 128 := hkq
  rw [word_eq _ _ _ kq hkq hk, iblk0]
  exact chk_of_lt _ (h c _)

end Cert.KernelIdeal.Run

end
-- ==== Proof.Scale.lean ====
/-
  The power-of-two scale of a block, computed in two ways. The kernel searches the float exponents for the largest power of two not above
  a number `t`; the reference takes the logarithm of `t`. Both give the same scale and the same inverse scale.
-/
module

public import Idealize.ShloMosaic.Lib.Pointwise

@[expose] public section

noncomputable section

namespace Cert.Scale

open Idealize.ShloMosaic

/-- The bits of the largest power of two not above `t`, among the float exponents. -/
def topBits (t : EReal) : BitVec 32 :=
  Finset.fold IntOp.maxsi 2147483648#32 (fun k : Fin 256 => if Ideal.ofBits .f32 (IntOp.shli ArithUnit.vector (BitVec.ofNat 32 ↑k) 23#32) ≤ t then
    IntOp.shli .vector (BitVec.ofNat 32 ↑k) 23#32 else 0#32) Finset.univ

/-- The bits of the scale: twice that power, or one where that power is zero or infinite. -/
def scaleBits (t : EReal) : BitVec 32 :=
  Scalar.select (IntOp.andi (IntOp.cmpi .sgt (topBits t) 0#32) (IntOp.cmpi .slt (topBits t) 2139095040#32)) (IntOp.addi (topBits t) 8388608#32) 1065353216#32

/-- The scale. -/
def scale (t : EReal) : EReal := Ideal.ofBits .f32 (scaleBits t)
/-- The inverse scale. -/
def inv (t : EReal) : EReal := Ideal.ofBits .f32 (IntOp.subi 2130706432#32 (scaleBits t))

/-- The exponent of the scale by the logarithm. -/
def expo (t : EReal) : EReal :=
  if t < Ideal.ofBits .f32 8388608#32 then 0
  else Ideal.liftRound Int.floor (Ideal.div (Ideal.log t) (Ideal.log (Ideal.ofBits .f32 1073741824#32))) + 1

/-- The float whose exponent field is `k` and whose fraction is zero: `2 ^ (k - 127)`, for the exponents of normal floats. -/
theorem ofBits_field (k : ℕ) (h0 : 0 < k) (h1 : k < 255) :
    Ideal.ofBits .f32 (BitVec.ofNat 32 (k * 2 ^ 23)) = (((2 : ℝ) ^ ((k : ℤ) - 127) : ℝ) : EReal) := by
  have e1 : ((BitVec.ofNat 32 (k * 2 ^ 23)).extractLsb' 23 8).toNat = k := by
    rw [BitVec.extractLsb'_toNat, BitVec.toNat_ofNat, Nat.shiftRight_eq_div_pow]; omega
  have e2 : ((BitVec.ofNat 32 (k * 2 ^ 23)).extractLsb' 0 23).toNat = 0 := by
    rw [BitVec.extractLsb'_toNat, BitVec.toNat_ofNat, Nat.shiftRight_eq_div_pow]; omega
  have e3 : ((BitVec.ofNat 32 (k * 2 ^ 23)).extractLsb' 31 1 == 1#1) = false := by
    rw [beq_eq_false_iff_ne]
    intro h
    have := congrArg BitVec.toNat h
    rw [BitVec.extractLsb'_toNat, BitVec.toNat_ofNat, Nat.shiftRight_eq_div_pow] at this
    simp at this
    omega
  show Ideal.ieee 8 23 _ = _
  unfold Ideal.ieee
  dsimp only
  rw [e1, e2, show (8 + 23 : ℕ) = 31 from rfl, e3, if_neg (by norm_num; omega), if_neg (by omega)]
  congr 1
  have : (2 : ℝ) ^ ((k : ℤ) - 127) = (2 : ℝ) ^ (23 : ℤ) * (2 : ℝ) ^ ((k : ℤ) - 127 - 23) := by
    rw [← zpow_add₀ (by norm_num : (2 : ℝ) ≠ 0)]; congr 1; ring
  rw [this]
  norm_num

/-- The word `k <<< 23`. -/
theorem shl_field (k : ℕ) (hk : k < 256) : IntOp.shli ArithUnit.vector (BitVec.ofNat 32 k) 23#32 = BitVec.ofNat 32 (k * 2 ^ 23) := by
  apply BitVec.eq_of_toNat_eq
  simp [IntOp.shli, BitVec.toNat_shiftLeft, BitVec.toNat_ofNat, Nat.shiftLeft_eq]
  try omega

theorem ofBits_top : Ideal.ofBits .f32 (BitVec.ofNat 32 (255 * 2 ^ 23)) = ⊤ := by
  simp [Ideal.ofBits, Ideal.ieee]

theorem ofBits_bottom : Ideal.ofBits .f32 (BitVec.ofNat 32 (0 * 2 ^ 23)) = 0 := by
  simp [Ideal.ofBits, Ideal.ieee]

/-- The largest of signed words, read as integers. -/
theorem toInt_fold {ι : Type} [DecidableEq ι] (s : Finset ι) (f : ι → BitVec 32) (v : ℤ) (h0 : (-2147483648 : ℤ) ≤ v)
    (hle : ∀ k ∈ s, (f k).toInt ≤ v) (hv : v = -2147483648 ∨ ∃ k ∈ s, (f k).toInt = v) :
    (Finset.fold IntOp.maxsi 2147483648#32 f s).toInt = v := by
  have key : ∀ a b : BitVec 32, (IntOp.maxsi a b).toInt = max a.toInt b.toInt := fun a b => by
    unfold IntOp.maxsi
    simp only [BitVec.slt]
    by_cases h : b.toInt < a.toInt
    · simp only [h, decide_true, if_true]; omega
    · simp only [h, decide_false, Bool.false_eq_true, if_false]; omega
  have hf : (Finset.fold IntOp.maxsi 2147483648#32 f s).toInt = Finset.fold max (-2147483648 : ℤ) (fun k => (f k).toInt) s := by
    rw [← Finset.fold_hom (op := IntOp.maxsi) (op' := max) (m := BitVec.toInt) (fun a b => (key a b))]
    rfl
  rw [hf]
  apply le_antisymm
  · exact (Finset.fold_max_le _).2 ⟨h0, hle⟩
  · rcases hv with rfl | ⟨k, hk, rfl⟩
    · exact (Finset.le_fold_max _).2 (Or.inl le_rfl)
    · exact (Finset.le_fold_max _).2 (Or.inr ⟨k, hk, le_rfl⟩)

/-- The float of an exponent field, on every field. -/
def pw (k : ℕ) : EReal := if k = 0 then 0 else if k < 255 then (((2 : ℝ) ^ ((k : ℤ) - 127) : ℝ) : EReal) else ⊤

theorem ofBits_shl (k : Fin 256) : Ideal.ofBits .f32 (IntOp.shli ArithUnit.vector (BitVec.ofNat 32 ↑k) 23#32) = pw k := by
  rw [shl_field k k.isLt]
  unfold pw
  have hk := k.isLt
  by_cases h0 : k.val = 0
  · rw [if_pos h0, h0]; exact ofBits_bottom
  · by_cases h1 : k.val < 255
    · rw [if_neg h0, if_pos h1]; exact ofBits_field k (by omega) h1
    · rw [if_neg h0, if_neg h1, show k.val = 255 by omega]; exact ofBits_top

theorem toInt_field (k : ℕ) (h : k < 256) : (BitVec.ofNat 32 (k * 2 ^ 23)).toInt = k * 2 ^ 23 := by
  rw [BitVec.toInt_eq_toNat_bmod, BitVec.toNat_ofNat, Int.bmod_def]
  omega

/-- Where `t` lies between the floats of the exponent fields `e` and `e + 1`, the search finds field `e`. -/
theorem topBits_eq (t : EReal) (e : ℕ) (he : e < 255) (h1 : pw e ≤ t) (h2 : ∀ k : Fin 256, e < k.val → ¬ pw k ≤ t) :
    topBits t = BitVec.ofNat 32 (e * 2 ^ 23) := by
  apply BitVec.eq_of_toInt_eq
  rw [toInt_field e (by omega)]
  unfold topBits
  apply toInt_fold
  · omega
  · intro k _
    rw [ofBits_shl]
    split
    · rename_i h
      rw [shl_field k k.isLt, toInt_field k k.isLt]
      have : k.val ≤ e := by by_contra hc; exact h2 k (by omega) h
      have : (k.val : ℤ) ≤ e := by exact_mod_cast this
      omega
    · show (0#32).toInt ≤ _
      simp
  · refine Or.inr ⟨⟨e, by omega⟩, Finset.mem_univ _, ?_⟩
    rw [ofBits_shl, if_pos h1, shl_field e (by omega), toInt_field e (by omega)]

theorem two_f32 : Ideal.ofBits .f32 1073741824#32 = ((2 : ℝ) : EReal) := by
  have h := ofBits_field 128 (by omega) (by omega)
  exact h.trans (by norm_num)

theorem tiny_f32 : Ideal.ofBits .f32 8388608#32 = (((2 : ℝ) ^ (-126 : ℤ) : ℝ) : EReal) := by
  have h := ofBits_field 1 (by omega) (by omega)
  exact h.trans (by norm_num)

theorem one_f32 : Ideal.ofBits .f32 1065353216#32 = 1 := by
  have h := ofBits_field 127 (by omega) (by omega)
  exact h.trans (by norm_num)

/-- The floats of the exponent fields increase, and field `k` above 0 is at least `2 ^ (k - 127)`. -/
theorem le_pw (k : ℕ) (h : 0 < k) : (((2 : ℝ) ^ ((k : ℤ) - 127) : ℝ) : EReal) ≤ pw k := by
  unfold pw
  rw [if_neg (by omega)]
  split
  · exact le_rfl
  · exact le_top

theorem pow_two (z : ℤ) : Ideal.pow (Ideal.ofBits .f32 1073741824#32) ((z : ℝ) : EReal) = (((2 : ℝ) ^ z : ℝ) : EReal) := by
  rw [two_f32]
  show ((Real.rpow 2 (z : ℝ) : ℝ) : EReal) = _
  congr 1
  exact Real.rpow_intCast 2 z

/-- What the search leaves below the least normal float. -/
theorem topBits_small (r : ℝ) (h0 : 0 ≤ r) (h : r < (2 : ℝ) ^ (-126 : ℤ)) : topBits (r : EReal) = 0#32 := by
  refine topBits_eq _ 0 (by omega) ?_ ?_
  · show (if (0 : ℕ) = 0 then (0 : EReal) else _) ≤ _
    rw [if_pos rfl]
    exact_mod_cast h0
  · intro k hk hle
    have h1 := (le_pw k hk).trans hle
    rw [EReal.coe_le_coe_iff] at h1
    have h2 : (2 : ℝ) ^ (-126 : ℤ) ≤ (2 : ℝ) ^ ((k.val : ℤ) - 127) := zpow_le_zpow_right₀ (by norm_num) (by omega)
    linarith

/-- What the search leaves for a normal float below `2 ^ 126`, where `z` is the integer part of its base-two logarithm. -/
theorem topBits_normal (r : ℝ) (z : ℤ) (h0 : -126 ≤ z) (h1 : z ≤ 125) (hz : (2 : ℝ) ^ z ≤ r) (hz' : r < (2 : ℝ) ^ (z + 1)) :
    topBits (r : EReal) = BitVec.ofNat 32 ((z + 127).toNat * 2 ^ 23) := by
  have hk : ((z + 127).toNat : ℤ) = z + 127 := Int.toNat_of_nonneg (by omega)
  refine topBits_eq _ _ (by omega) ?_ ?_
  · unfold pw
    rw [if_neg (by omega), if_pos (by omega), EReal.coe_le_coe_iff, hk, show z + 127 - 127 = z by ring]
    exact hz
  · intro k hk' hle
    have h1 := (le_pw k (by omega)).trans hle
    rw [EReal.coe_le_coe_iff] at h1
    have h2 : (2 : ℝ) ^ (z + 1) ≤ (2 : ℝ) ^ ((k.val : ℤ) - 127) := zpow_le_zpow_right₀ (by norm_num) (by omega)
    linarith

theorem scaleBits_small (t : EReal) (h : topBits t = 0#32) : scaleBits t = 1065353216#32 := by
  unfold scaleBits
  rw [h]
  decide

theorem scaleBits_normal (t : EReal) (k : ℕ) (h0 : 0 < k) (h1 : k < 253) (h : topBits t = BitVec.ofNat 32 (k * 2 ^ 23)) :
    scaleBits t = BitVec.ofNat 32 ((k + 1) * 2 ^ 23) := by
  unfold scaleBits
  have e1 : IntOp.cmpi .sgt (topBits t) 0#32 = 1#1 := by
    rw [h]
    show BitVec.ofBool (decide ((0#32).toInt < _)) = 1#1
    rw [toInt_field k (by omega)]
    rw [decide_eq_true (by simp; omega)]
    rfl
  have e2 : IntOp.cmpi .slt (topBits t) 2139095040#32 = 1#1 := by
    rw [h]
    show BitVec.ofBool (decide (_ < (2139095040#32).toInt)) = 1#1
    rw [toInt_field k (by omega)]
    rw [decide_eq_true (by rw [show (2139095040#32).toInt = 2139095040 from by decide]; omega)]
    rfl
  rw [e1, e2, h]
  show BitVec.ofNat 32 (k * 2 ^ 23) + 8388608#32 = _
  apply BitVec.eq_of_toNat_eq
  rw [BitVec.toNat_add, BitVec.toNat_ofNat, BitVec.toNat_ofNat, BitVec.toNat_ofNat]
  omega

/-- **The two scales agree**, and so do the inverse scales, for every `t` from 0 to `2 ^ 126`. -/
theorem scale_inv_eq (t : EReal) (h0 : 0 ≤ t) (h1 : t < (((2 : ℝ) ^ (126 : ℤ) : ℝ) : EReal)) :
    scale t = Ideal.pow (Ideal.ofBits .f32 1073741824#32) (expo t) ∧ inv t = Ideal.pow (Ideal.ofBits .f32 1073741824#32) (-(expo t)) := by
  induction t with
  | bot => exact absurd h0 (by simp)
  | top => exact absurd h1 (by simp)
  | coe r =>
    rw [EReal.coe_lt_coe_iff] at h1
    have h0' : 0 ≤ r := by exact_mod_cast h0
    unfold scale inv expo
    by_cases h : r < (2 : ℝ) ^ (-126 : ℤ)
    · rw [if_pos (by rw [tiny_f32, EReal.coe_lt_coe_iff]; exact h), scaleBits_small _ (topBits_small r h0' h)]
      have e : IntOp.subi 2130706432#32 1065353216#32 = 1065353216#32 := by decide
      have z : Ideal.pow (Ideal.ofBits .f32 1073741824#32) 0 = 1 := by
        have := pow_two 0
        simpa using this
      rw [e, one_f32, neg_zero, z]
      exact ⟨rfl, rfl⟩
    · rw [if_neg (by rw [tiny_f32, EReal.coe_lt_coe_iff]; exact h)]
      have hr : 0 < r := lt_of_lt_of_le (by positivity) (not_lt.1 h)
      have l2 : 0 < Real.log 2 := Real.log_pos (by norm_num)
      set z : ℤ := ⌊Real.log r / Real.log 2⌋ with hzd
      have hp : ∀ w : ℤ, (2 : ℝ) ^ w = Real.exp (w * Real.log 2) := fun w => by
        rw [← Real.rpow_intCast, Real.rpow_def_of_pos (by norm_num), mul_comm]
      have hz1 : (2 : ℝ) ^ z ≤ r := by
        rw [hp, ← Real.le_log_iff_exp_le hr, ← le_div_iff₀ l2]
        exact Int.floor_le _
      have hz2 : r < (2 : ℝ) ^ (z + 1) := by
        rw [hp, ← Real.log_lt_iff_lt_exp hr, ← div_lt_iff₀ l2]
        push_cast
        exact Int.lt_floor_add_one _
      have hlo : -126 ≤ z := by
        by_contra hc
        have : (2 : ℝ) ^ (z + 1) ≤ (2 : ℝ) ^ (-126 : ℤ) := zpow_le_zpow_right₀ (by norm_num) (by omega)
        linarith
      have hhi : z ≤ 125 := by
        by_contra hc
        have : (2 : ℝ) ^ (126 : ℤ) ≤ (2 : ℝ) ^ z := zpow_le_zpow_right₀ (by norm_num) (by omega)
        linarith
      have hk : ((z + 127).toNat : ℤ) = z + 127 := Int.toNat_of_nonneg (by omega)
      rw [scaleBits_normal _ (z + 127).toNat (by omega) (by omega) (topBits_normal r z hlo hhi hz1 hz2)]
      have hlog : Ideal.liftRound Int.floor (Ideal.div (Ideal.log (r : EReal)) (Ideal.log (Ideal.ofBits .f32 1073741824#32))) + 1
          = (((z + 1 : ℤ) : ℝ) : EReal) := by
        rw [two_f32]
        have a1 : Ideal.log (r : EReal) = (Real.log r : EReal) := if_neg (not_le.2 hr)
        have a2 : Ideal.log ((2 : ℝ) : EReal) = (Real.log 2 : EReal) := if_neg (by norm_num)
        rw [a1, a2]
        unfold Ideal.div
        rw [if_neg (by rw [EReal.coe_eq_zero]; exact l2.ne'), ← EReal.coe_inv, ← EReal.coe_mul, ← div_eq_mul_inv]
        show ((⌊Real.log r / Real.log 2⌋ : ℝ) : EReal) + 1 = _
        push_cast
        rfl
      rw [hlog, pow_two]
      constructor
      · rw [ofBits_field _ (by omega) (by omega)]
        congr 2
        push_cast
        omega
      · rw [show -(((z + 1 : ℤ) : ℝ) : EReal) = (((-(z + 1) : ℤ) : ℝ) : EReal) by push_cast; rfl, pow_two]
        have e : IntOp.subi 2130706432#32 (BitVec.ofNat 32 (((z + 127).toNat + 1) * 2 ^ 23)) = BitVec.ofNat 32 ((253 - (z + 127).toNat) * 2 ^ 23) := by
          show 2130706432#32 - _ = _
          apply BitVec.eq_of_toNat_eq
          rw [BitVec.toNat_sub, BitVec.toNat_ofNat, BitVec.toNat_ofNat, BitVec.toNat_ofNat]
          omega
        rw [e, ofBits_field _ (by omega) (by omega)]
        congr 2
        omega

end Cert.Scale
-- ==== Proof.Spec.lean ====
/-
  What both programs compute, as plain functions of the launch arrays' entries: the activations `X`, the list of outlier channels `id`, the
  outlier weights `WO`, the weight codes `WC` and the weight scales `WS`.
-/
module

public import proofs.«01_k».proof.Proof.Scale
public import Idealize.ShloMosaic.Lib.Pointwise.Index

@[expose] public section

noncomputable section

namespace Cert.Spec

open Idealize.ShloMosaic

/-- The activations as a matrix, from the array in three axes. -/
def act (a : (⟨3, ![6, 1024, 3584]⟩ : Shape).Idx → EReal) (r : Fin 6144) (d : Fin 3584) : EReal :=
  a (ix3 ⟨r.val / 1024, by omega⟩ ⟨r.val % 1024, by omega⟩ d)
/-- The channel list. -/
def ids (a : (⟨1, ![128]⟩ : Shape).Idx → BitVec 32) (k : Fin 128) : BitVec 32 := a (ix1 k)
/-- A matrix as a function of row and column. -/
def mat {p q : ℕ} (a : (⟨2, ![p, q]⟩ : Shape).Idx → EReal) (r : Fin p) (d : Fin q) : EReal := a (ix2 r d)

/-- Row `r` of row tile `i`. -/
def rowOf (i : ℕ) (r : Fin 1024) : Fin 6144 := ⟨(i * 1024 + r.val) % 6144, Nat.mod_lt _ (by norm_num)⟩

variable (X : Fin 6144 → Fin 3584 → EReal) (id : Fin 128 → BitVec 32) (WO : Fin 128 → Fin 17024 → EReal)
variable (WC : Fin 3584 → Fin 17024 → EReal) (WS : Fin 28 → Fin 133 → EReal)

/-- Channel `d` is listed. -/
def Hit (d : ℕ) : Prop := ∃ k, (id k).toNat = d

open Classical in
/-- The activation of an unlisted channel, and zero in a listed one. -/
def keep (r : Fin 6144) (d : Fin 3584) : EReal := if Hit id d.val then 0 else X r d

/-- The largest magnitude of a block of 128 channels, times the float taken for 1/448. -/
def top (r : Fin 6144) (b : Fin 28) : EReal :=
  Finset.fold max (Ideal.ofBits .f32 4286578688#32) (fun l : Fin 128 => FloatOps.absf (F := Ideal) (φ := .f32) (keep X id r ⟨b.val * 128 + l.val, by omega⟩)) Finset.univ
    * Ideal.ofBits .f32 991054117#32

/-- The scale of a block. -/
def scale (r : Fin 6144) (b : Fin 28) : EReal := Scale.scale (top X id r b)

/-- The code of an activation: times the inverse scale, clipped to ±448. -/
def code (r : Fin 6144) (d : Fin 3584) : EReal :=
  min (Ideal.ofBits .f32 1138753536#32) (max (Ideal.ofBits .f32 3286237184#32) (keep X id r d * Scale.inv (top X id r ⟨d.val / 128, by omega⟩)))

/-- The dequantised activation. -/
def quant (r : Fin 6144) (d : Fin 3584) : EReal := code X id r d * scale X id r ⟨d.val / 128, by omega⟩

/-- The dequantised weight. -/
def weight (d : Fin 3584) (n : Fin 17024) : EReal := WC d n * WS ⟨d.val / 128, by omega⟩ ⟨n.val / 128, by omega⟩

open Classical in
/-- The activation that a single product takes: the original one in a listed channel, the dequantised one elsewhere. -/
def mixX (r : Fin 6144) (d : Fin 3584) : EReal := if Hit id d.val then X r d else quant X id r d

open Classical in
/-- The weight that a single product takes: the outlier row in a listed channel, the dequantised weight elsewhere. -/
def mixW (d : Fin 3584) (n : Fin 17024) : EReal := if h : Hit id d.val then WO h.choose n else weight WC WS d n

/-- The result. -/
def y (r : Fin 6144) (n : Fin 17024) : EReal := ∑ d : Fin 3584, mixX X id r d * mixW id WO WC WS d n

variable {X id}

theorem keep_of_hit {r : Fin 6144} {d : Fin 3584} (h : Hit id d.val) : keep X id r d = 0 := if_pos h

theorem clip_zero : min (Ideal.ofBits .f32 1138753536#32) (max (Ideal.ofBits .f32 3286237184#32) 0) = 0 := by
  have h1 : (0 : EReal) ≤ Ideal.ofBits .f32 1138753536#32 := by
    rw [show Ideal.ofBits .f32 1138753536#32 = ((448 : ℝ) : EReal) from by simp [Ideal.ofBits, Ideal.ieee, ← EReal.coe_mul]; norm_num]
    exact_mod_cast (by norm_num : (0 : ℝ) ≤ 448)
  have h2 : Ideal.ofBits .f32 3286237184#32 ≤ 0 := by
    rw [show Ideal.ofBits .f32 3286237184#32 = ((-448 : ℝ) : EReal) from by simp [Ideal.ofBits, Ideal.ieee, ← EReal.coe_mul]; norm_num]
    exact_mod_cast (by norm_num : (-448 : ℝ) ≤ 0)
  rw [max_eq_right h2, min_eq_right h1]

/-- A listed channel's code is zero. -/
theorem code_of_hit {r : Fin 6144} {d : Fin 3584} (h : Hit id d.val) : code X id r d = 0 := by
  unfold code
  rw [keep_of_hit h, zero_mul, clip_zero]

theorem quant_of_hit {r : Fin 6144} {d : Fin 3584} (h : Hit id d.val) : quant X id r d = 0 := by
  unfold quant
  rw [code_of_hit h, zero_mul]

/-- A sum whose terms vanish on the image of an injection, plus the sum over that image of other terms. -/
theorem sum_split {ι κ : Type} [Fintype ι] [Fintype κ] [DecidableEq ι] (f : κ → ι) (hf : Function.Injective f) (A C : ι → EReal)
    (h0 : ∀ k, A (f k) = 0) (h1 : ∀ d, (¬ ∃ k, f k = d) → A d = C d) : ∑ d, A d + ∑ k, C (f k) = ∑ d, C d := by
  have e1 : ∑ k, C (f k) = ∑ d ∈ Finset.univ.image f, C d := (Finset.sum_image fun a _ b _ h => hf h).symm
  have e2 : ∑ d ∈ Finset.univ.image f, A d = 0 := Finset.sum_eq_zero fun d hd => by
    obtain ⟨k, _, rfl⟩ := Finset.mem_image.1 hd
    exact h0 k
  have e3 : ∑ d ∈ Finset.univ \ Finset.univ.image f, A d = ∑ d ∈ Finset.univ \ Finset.univ.image f, C d :=
    Finset.sum_congr rfl fun d hd => h1 d fun ⟨k, hk⟩ => (Finset.mem_sdiff.1 hd).2 (Finset.mem_image.2 ⟨k, Finset.mem_univ k, hk⟩)
  rw [e1, ← Finset.sum_sdiff (Finset.subset_univ (Finset.univ.image f)) (f := A), e2, e3, add_zero, Finset.sum_sdiff (Finset.subset_univ _)]

/-- The weight taken in a listed channel is its outlier row. -/
theorem mixW_of_hit (hinj : ∀ k l, id k = id l → k = l) (k : Fin 128) (d : Fin 3584) (hk : (id k).toNat = d.val) (n : Fin 17024) :
    mixW id WO WC WS d n = WO k n := by
  have h : Hit id d.val := ⟨k, hk⟩
  unfold mixW
  rw [dif_pos h]
  exact congrArg (fun q => WO q n) (hinj _ _ (BitVec.eq_of_toNat_eq (h.choose_spec.trans hk.symm)))

theorem mixW_of_not_hit (d : Fin 3584) (hd : ¬ Hit id d.val) (n : Fin 17024) : mixW id WO WC WS d n = weight WC WS d n := dif_neg hd

/-- The reference's two products are the single one: the listed channels drop out of the first, and the second runs over exactly them. -/
theorem y_eq (hlt : ∀ k, (id k).toNat < 3584) (hinj : ∀ k l, id k = id l → k = l) (r : Fin 6144) (n : Fin 17024) :
    (∑ d : Fin 3584, quant X id r d * weight WC WS d n) + ∑ k : Fin 128, X r ⟨(id k).toNat, hlt k⟩ * WO k n = y X id WO WC WS r n := by
  have hf : Function.Injective (fun k => (⟨(id k).toNat, hlt k⟩ : Fin 3584)) := fun k l h => hinj k l (BitVec.eq_of_toNat_eq (Fin.mk.inj h))
  have key := sum_split (fun k => (⟨(id k).toNat, hlt k⟩ : Fin 3584)) hf (fun d => quant X id r d * weight WC WS d n)
    (fun d => mixX X id r d * mixW id WO WC WS d n)
    (fun k => by
      show quant X id r _ * _ = 0
      rw [quant_of_hit ⟨k, rfl⟩, zero_mul])
    (fun d hd => by
      have hd' : ¬ Hit id d.val := fun ⟨k, hk⟩ => hd ⟨k, Fin.ext hk⟩
      show _ = mixX X id r d * _
      rw [mixW_of_not_hit WO WC WS d hd' n]
      unfold mixX
      rw [if_neg hd'])
  have e : ∑ k : Fin 128, X r ⟨(id k).toNat, hlt k⟩ * WO k n
      = ∑ k : Fin 128, mixX X id r ⟨(id k).toNat, hlt k⟩ * mixW id WO WC WS ⟨(id k).toNat, hlt k⟩ n := Finset.sum_congr rfl fun k _ => by
    rw [mixW_of_hit WO WC WS hinj k _ rfl n]
    unfold mixX
    rw [if_pos (show Hit id _ from ⟨k, rfl⟩)]
  rw [e]
  exact key

/-- The float taken for 1/448. -/
theorem c_f32 : Ideal.ofBits .f32 991054117#32 = ((9586981 * 2 ^ (-32 : ℤ) : ℝ) : EReal) := by
  simp [Ideal.ofBits, Ideal.ieee, ← EReal.coe_mul]

/-- The largest finite bf16. -/
theorem max_bf16 : Ideal.ofBits .bf16 0x7F7F#16 = ((255 * 2 ^ (120 : ℤ) : ℝ) : EReal) := by
  simp [Ideal.ofBits, Ideal.ieee, ← EReal.coe_mul]

theorem ninf_f32 : Ideal.ofBits .f32 4286578688#32 = ⊥ := by
  simp [Ideal.ofBits, Ideal.ieee]

/-- Finite activations keep the largest magnitude between 0 and `2 ^ 126`. -/
theorem top_bounds (hfin : ∀ r d, FloatOps.absf (F := Ideal) (φ := .f32) (X r d) ≤ Ideal.ofBits .bf16 0x7F7F#16) (r : Fin 6144) (b : Fin 28) :
    0 ≤ top X id r b ∧ top X id r b < (((2 : ℝ) ^ (126 : ℤ) : ℝ) : EReal) := by
  have habs : ∀ d, 0 ≤ FloatOps.absf (F := Ideal) (φ := .f32) (keep X id r d)
      ∧ FloatOps.absf (F := Ideal) (φ := .f32) (keep X id r d) ≤ Ideal.ofBits .bf16 0x7F7F#16 := fun d => by
    have hnn : ∀ x : EReal, (0 : EReal) ≤ FloatOps.absf (F := Ideal) (φ := .f32) x := fun x => by
      show (0 : EReal) ≤ max x (-x)
      rcases le_total 0 x with h | h
      · exact le_max_of_le_left h
      · exact le_max_of_le_right (EReal.neg_nonneg.2 h)
    refine ⟨hnn _, ?_⟩
    unfold keep
    split
    · show max (0 : EReal) (-0) ≤ _
      rw [neg_zero, max_self]
      exact (hnn (X r d)).trans (hfin r d)
    · exact hfin r d
  unfold top
  rw [ninf_f32]
  set M := Finset.fold max (⊥ : EReal) (fun l : Fin 128 => FloatOps.absf (F := Ideal) (φ := .f32) (keep X id r ⟨b.val * 128 + l.val, by omega⟩)) Finset.univ with hM
  have h0 : 0 ≤ M := (Finset.le_fold_max _).2 (Or.inr ⟨0, Finset.mem_univ _, (habs _).1⟩)
  have h1 : M ≤ Ideal.ofBits .bf16 0x7F7F#16 := (Finset.fold_max_le _).2 ⟨bot_le, fun l _ => (habs _).2⟩
  rw [max_bf16] at h1
  rw [c_f32]
  clear_value M
  induction M with
  | bot => exact absurd h0 (by simp)
  | top => exact absurd h1 (not_le.2 (EReal.coe_lt_top _))
  | coe M =>
    have h0' : 0 ≤ M := by exact_mod_cast h0
    rw [EReal.coe_le_coe_iff] at h1
    rw [← EReal.coe_mul]
    constructor
    · have : (0 : ℝ) ≤ M * (9586981 * 2 ^ (-32 : ℤ)) := by positivity
      exact_mod_cast this
    · rw [EReal.coe_lt_coe_iff]
      have : M * (9586981 * 2 ^ (-32 : ℤ)) ≤ 255 * 2 ^ (120 : ℤ) * (9586981 * 2 ^ (-32 : ℤ)) := mul_le_mul_of_nonneg_right h1 (by positivity)
      refine lt_of_le_of_lt this ?_
      norm_num

end Cert.Spec
-- ==== Proof.PI.Inputs.lean ====
/-
  What the body finds in its input windows at a grid point, as entries of the launch arrays.
-/
module

public import proofs.«01_k».proof.Proof.PI.Chk
public import proofs.«01_k».proof.Proof.Spec
public import Idealize.ShloMosaic.Lib.StableHlo.ReadAt
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

section
variable {F : FTy → Type} [FloatOps F]
variable (m : (ℓ : Loc nD τ sig) → Buf (Elt F) ℓ) (c : Dev nD)

/-- The host's arrays: the scales padded, the activations as a matrix, the channel list as a column. -/
theorem V_pad : V m c main_v0 = pad S28x136 ![0, 0] ![0, 3] ![0, 0] (m ((c.tc : Thread nD τ).loc main_arg4)) (id (constant S_ .f32 0x3F800000#32)) pads_S28x133_S28x136_000_030 h_S_ := by
  unfold V; after_reads_simp; rfl
theorem V_act : V m c main_v1 = shapeCast S6144x3584 (m ((c.tc : Thread nD τ).loc main_arg0)) shapeCasts_S6x1024x3584_S6144x3584 := by
  unfold V; after_reads_simp; rfl
theorem V_ids : V m c main_v2 = shapeCast S128x1 (m ((c.tc : Thread nD τ).loc main_arg1)) shapeCasts_S128_S128x1 := by
  unfold V; after_reads_simp; rfl

theorem pad_at (x : FVec F S28x133 .f32) (v : FVec F S_ .f32) (b : Fin 28) (q : Fin 133) :
    pad S28x136 ![0, 0] ![0, 3] ![0, 0] x v pads_S28x133_S28x136_000_030 h_S_ (ix2 b ⟨q.val, by omega⟩) = x (ix2 b q) := by
  rw [pad_apply, dif_pos]
  · refine congrArg x (funext fun a => Fin.ext ?_)
    fin_cases a
    · show (b.val - 0) / (0 + 1) = b.val; omega
    · show (q.val - 0) / (0 + 1) = q.val; omega
  · intro a
    fin_cases a
    · show 0 ≤ b.val ∧ (b.val - 0) % (0 + 1) = 0 ∧ (b.val - 0) / (0 + 1) < 28; omega
    · show 0 ≤ q.val ∧ (q.val - 0) % (0 + 1) = 0 ∧ (q.val - 0) / (0 + 1) < 133; omega

theorem ix_1 : ∀ t : Fin cfg0.N, ∀ a, win0_1.index t a = 0 := (by decide +kernel : ∀ t : Fin grid0.N, _)
theorem ix_2a : ∀ t : Fin cfg0.N, win0_2.index t 0 = t.val / 34 := (by decide +kernel : ∀ t : Fin grid0.N, _)
theorem ix_2b : ∀ t : Fin cfg0.N, win0_2.index t 1 = 0 := (by decide +kernel : ∀ t : Fin grid0.N, _)
theorem ix_3 : ∀ t : Fin cfg0.N, ∀ a, win0_3.index t a = 0 := (by decide +kernel : ∀ t : Fin grid0.N, _)
theorem ix_4a : ∀ t : Fin cfg0.N, win0_4.index t 0 = 0 := (by decide +kernel : ∀ t : Fin grid0.N, _)
theorem ix_4b : ∀ t : Fin cfg0.N, win0_4.index t 1 = t.val % 34 := (by decide +kernel : ∀ t : Fin grid0.N, _)
theorem ix_5a : ∀ t : Fin cfg0.N, win0_5.index t 0 = 0 := (by decide +kernel : ∀ t : Fin grid0.N, _)
theorem ix_5b : ∀ t : Fin cfg0.N, win0_5.index t 1 = t.val % 34 := (by decide +kernel : ∀ t : Fin grid0.N, _)
theorem xs_4a : ∀ t : Fin cfg0.N, win0_4.xsize (grid0.coords t) 0 = 128 := (by decide +kernel : ∀ t : Fin grid0.N, _)
theorem xs_4b : ∀ t : Fin cfg0.N, win0_4.xsize (grid0.coords t) 1 = min 512 (17024 - t.val % 34 * 512) := (by decide +kernel : ∀ t : Fin grid0.N, _)
theorem xs_5a : ∀ t : Fin cfg0.N, win0_5.xsize (grid0.coords t) 0 = 3584 := (by decide +kernel : ∀ t : Fin grid0.N, _)
theorem xs_5b : ∀ t : Fin cfg0.N, win0_5.xsize (grid0.coords t) 1 = min 512 (17024 - t.val % 34 * 512) := (by decide +kernel : ∀ t : Fin grid0.N, _)

/-- The scales. -/
theorem in1 (t : Fin cfg0.N) (b : Fin 28) (q : Fin 133) : iblk m c 1 t (ix2 b ⟨q.val, by omega⟩) = m ((c.tc : Thread nD τ).loc main_arg4) (ix2 b q) := by
  unfold iblk
  rw [show V m c (Pipeline.arrRef spec0 1) = _ from V_pad m c]
  refine Eq.trans ?_ (pad_at (m ((c.tc : Thread nD τ).loc main_arg4)) (id (constant S_ .f32 0x3F800000#32)) b q)
  refine congrArg (pad S28x136 ![0, 0] ![0, 3] ![0, 0] (m ((c.tc : Thread nD τ).loc main_arg4)) (id (constant S_ .f32 0x3F800000#32)) pads_S28x133_S28x136_000_030 h_S_) (funext fun a => Fin.ext ?_)
  fin_cases a
  · show win0_1.index t 0 * 28 + 1 * b.val = b.val; rw [ix_1]; omega
  · show win0_1.index t 1 * 136 + 1 * q.val = q.val; rw [ix_1]; omega

/-- The outlier weights, at a column inside the array. -/
theorem in4 (t : Fin cfg0.N) (d : Vec F S128x512 .bf16) (k : Fin 128) (n : Fin 512) (hn : t.val % 34 * 512 + n.val < 17024) :
    held4 m c t d (ix2 k n) = m ((c.tc : Thread nD τ).loc main_arg2) (ix2 k ⟨t.val % 34 * 512 + n.val, hn⟩) := by
  have hx : ∀ a, ((ix2 k n : S128x512.Idx) a).val < (cfg0.win 4).xsize (cfg0.grid.coords t) a := fun a => by
    fin_cases a
    · show k.val < win0_4.xsize (grid0.coords t) 0; rw [xs_4a]; omega
    · show n.val < win0_4.xsize (grid0.coords t) 1; rw [xs_4b]; omega
  unfold held4
  rw [show (ix2 k n : S128x512.Idx) = (cfg0.win 4).xinj (cfg0.grid.coords t) (fun a => ⟨((ix2 k n : S128x512.Idx) a).val, hx a⟩) from rfl, Pipeline.Window.fill_xinj]
  unfold iblk
  rw [show V m c (Pipeline.arrRef spec0 4) = _ from V_main_arg2 m c]
  refine congrArg (m ((c.tc : Thread nD τ).loc main_arg2)) (funext fun a => Fin.ext ?_)
  fin_cases a
  · show win0_4.index t 0 * 128 + 1 * k.val = k.val; rw [ix_4a]; omega
  · show win0_4.index t 1 * 512 + 1 * n.val = t.val % 34 * 512 + n.val; rw [ix_4b]; omega

/-- The weight codes, at a column inside the array. -/
theorem in5 (t : Fin cfg0.N) (d : Vec F S3584x512 .fp8e4m3) (e : Fin 3584) (n : Fin 512) (hn : t.val % 34 * 512 + n.val < 17024) :
    held5 m c t d (ix2 e n) = m ((c.tc : Thread nD τ).loc main_arg3) (ix2 e ⟨t.val % 34 * 512 + n.val, hn⟩) := by
  have hx : ∀ a, ((ix2 e n : S3584x512.Idx) a).val < (cfg0.win 5).xsize (cfg0.grid.coords t) a := fun a => by
    fin_cases a
    · show e.val < win0_5.xsize (grid0.coords t) 0; rw [xs_5a]; omega
    · show n.val < win0_5.xsize (grid0.coords t) 1; rw [xs_5b]; omega
  unfold held5
  rw [show (ix2 e n : S3584x512.Idx) = (cfg0.win 5).xinj (cfg0.grid.coords t) (fun a => ⟨((ix2 e n : S3584x512.Idx) a).val, hx a⟩) from rfl, Pipeline.Window.fill_xinj]
  unfold iblk
  rw [show V m c (Pipeline.arrRef spec0 5) = _ from V_main_arg3 m c]
  refine congrArg (m ((c.tc : Thread nD τ).loc main_arg3)) (funext fun a => Fin.ext ?_)
  fin_cases a
  · show win0_5.index t 0 * 3584 + 1 * e.val = e.val; rw [ix_5a]; omega
  · show win0_5.index t 1 * 512 + 1 * n.val = t.val % 34 * 512 + n.val; rw [ix_5b]; omega
end

theorem act_at (x : FVec Ideal S6x1024x3584 .bf16) (r : Fin 6144) (d : Fin 3584) :
    shapeCast S6144x3584 x shapeCasts_S6x1024x3584_S6144x3584 (ix2 r d) = Spec.act x r d := by
  unfold Spec.act
  pointwise
theorem col_at (x : IVec S128 32) (k : Fin 128) : shapeCast S128x1 x shapeCasts_S128_S128x1 (ix2 k 0) = Spec.ids x k := by
  unfold Spec.ids
  pointwise

variable (m : (ℓ : Loc nD τ sig) → Buf (Elt Ideal) ℓ) (c : Dev nD)

/-- The row tile of activations. -/
theorem in2 (t : Fin cfg0.N) (r : Fin 1024) (d : Fin 3584) :
    iblk m c 2 t (ix2 r d) = Spec.act (m ((c.tc : Thread nD τ).loc main_arg0)) (Spec.rowOf (t.val / 34) r) d := by
  have ht : t.val < 204 := t.isLt
  unfold iblk
  rw [show V m c (Pipeline.arrRef spec0 2) = _ from V_act m c]
  refine Eq.trans ?_ (act_at (m ((c.tc : Thread nD τ).loc main_arg0)) (Spec.rowOf (t.val / 34) r) d)
  refine congrArg (shapeCast S6144x3584 (m ((c.tc : Thread nD τ).loc main_arg0)) shapeCasts_S6x1024x3584_S6144x3584) (funext fun a => Fin.ext ?_)
  fin_cases a
  · show win0_2.index t 0 * 1024 + 1 * r.val = (t.val / 34 * 1024 + r.val) % 6144; rw [ix_2a]; omega
  · show win0_2.index t 1 * 3584 + 1 * d.val = d.val; rw [ix_2b]; omega

/-- The channel list. -/
theorem in3 (t : Fin cfg0.N) (k : Fin 128) : iblk m c 3 t (ix2 k 0) = Spec.ids (m ((c.tc : Thread nD τ).loc main_arg1)) k := by
  unfold iblk
  rw [show V m c (Pipeline.arrRef spec0 3) = _ from V_ids m c]
  refine Eq.trans ?_ (col_at (m ((c.tc : Thread nD τ).loc main_arg1)) k)
  refine congrArg (shapeCast S128x1 (m ((c.tc : Thread nD τ).loc main_arg1)) shapeCasts_S128_S128x1) (funext fun a => Fin.ext ?_)
  fin_cases a
  · show win0_3.index t 0 * 128 + 1 * k.val = k.val; rw [ix_3]; omega
  · show win0_3.index t 1 * 1 + 1 * 0 = 0; rw [ix_3]

end Cert.KernelIdeal.Run
-- ==== Proof.PI.Blocks.lean ====
/- What the kernel body stores, block by block: the 28 channel blocks of a row tile are quantised by one function of the block number,
   and the 112 blocks of a weight tile are scaled by one function of the block numbers. -/
module

public import proofs.«01_k».proof.Proof.PI.RunA
public import proofs.«01_k».proof.Proof.PI.RunB

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One channel block of the quantiser, with `kw` the word of its first channel -/

/-- The lanes of the block that are outlier channels. -/
def bMask (kw : BitVec 32) (o : Vec F S128x1 .i32) : IVec S1x128 1 :=
  cmpf .ogt (shapeCast S1x128 (multiReduction .maximumf [0] S128 (sitofp (F := F) .f32 (extui 32 (cmpi .eq (broadcastTo S128x128 (shapeCast S128x1 o shapeCasts_S128x1_S128x1) broadcasts_S128x1_S128x128) (addi (iota .tc S128x128 32 [1] iota_S128x128_d1_w32) (broadcast S128x128 kw))) natLt_1_32)) 0xFF800000#32 reduces_S128x128_S128 (.inl rfl) rfl) shapeCasts_S128_S1x128) (broadcast S1x128 (Scalar.ofBits .f32 0x00000000#32))

/-- The mask, one row of it for every row of the tile. -/
def bHit (kw : BitVec 32) (o : Vec F S128x1 .i32) : IVec S1024x128 1 :=
  broadcastTo S1024x128 (shapeCast S1x128 (bMask kw o) shapeCasts_S1x128_S1x128) broadcasts_S1x128_S1024x128

/-- The block's activations, widened. -/
def bX (x : Vec F S1024x128 .bf16) : FVec F S1024x128 .f32 := extf .f32 (shapeCast S1024x128 x shapeCasts_S1024x128_S1024x128) bitsLt_bf16_f32

/-- The block with its outlier lanes cleared. -/
def bVal (kw : BitVec 32) (o : Vec F S128x1 .i32) (x : Vec F S1024x128 .bf16) : FVec F S1024x128 .f32 :=
  select (bHit kw o) (broadcast S1024x128 (Scalar.ofBits .f32 0x00000000#32)) (bX x)

/-- Each row's greatest absolute value over the block, divided by the largest code. -/
def bAmax (kw : BitVec 32) (o : Vec F S128x1 .i32) (x : Vec F S1024x128 .bf16) : FVec F S1024x1 .f32 :=
  mulf (shapeCast S1024x1 (multiReduction .maximumf [1] S1024 (absf (bVal kw o x)) 0xFF800000#32 reduces_S1024x128_S1024 (.inl rfl) rfl) shapeCasts_S1024_S1024x1) (broadcast S1024x1 (Scalar.ofBits .f32 0x3B124925#32))

/-- The bits of the greatest power of two at or below it. -/
def bTop (kw : BitVec 32) (o : Vec F S128x1 .i32) (x : Vec F S1024x128 .bf16) : IVec S1024x1 32 :=
  shapeCast S1024x1 (multiReductionI .maxsi [1] S1024 (select (cmpf .oge (broadcastTo S1024x256 (bAmax kw o x) broadcasts_S1024x1_S1024x256) (broadcastTo S1024x256 (k0_pay6 (F := F)) broadcasts_S1x256_S1024x256)) (broadcastTo S1024x256 (shapeCast S1x256 k0_pay5 shapeCasts_S1x256_S1x256) broadcasts_S1x256_S1024x256) (broadcast S1024x256 0#32)) 2147483648#32 reduces_S1024x256_S1024 rfl) shapeCasts_S1024_S1024x1

/-- The bits of the row's scale. -/
def bBits (kw : BitVec 32) (o : Vec F S128x1 .i32) (x : Vec F S1024x128 .bf16) : IVec S1024x1 32 :=
  select (andi (cmpi .sgt (bTop kw o x) (broadcast S1024x1 0#32)) (cmpi .slt (bTop kw o x) (broadcast S1024x1 2139095040#32))) (addi (bTop kw o x) (broadcast S1024x1 8388608#32)) (broadcast S1024x1 1065353216#32)

/-- The row's scale. -/
def bScale (kw : BitVec 32) (o : Vec F S128x1 .i32) (x : Vec F S1024x128 .bf16) : FVec F S1024x1 .f32 := bitcastToFloat .f32 (bBits kw o x)

/-- The scale's inverse. -/
def bInv (kw : BitVec 32) (o : Vec F S128x1 .i32) (x : Vec F S1024x128 .bf16) : FVec F S1024x1 .f32 :=
  bitcastToFloat .f32 (subi (broadcast S1024x1 2130706432#32) (bBits kw o x))

/-- The block's codes. -/
def bCodes (kw : BitVec 32) (o : Vec F S128x1 .i32) (x : Vec F S1024x128 .bf16) : FVec F S1024x128 .fp8e4m3 :=
  truncf .fp8e4m3 (minimumf (broadcast S1024x128 (Scalar.ofBits .f32 0x43E00000#32)) (maximumf (broadcast S1024x128 (Scalar.ofBits .f32 0xC3E00000#32)) (mulf (bVal kw o x) (broadcastTo S1024x128 (bInv kw o x) broadcasts_S1024x1_S1024x128)))) bitsLt_fp8e4m3_f32

/-- The block as the product reads it: the quantised values, and the activations themselves on outlier lanes. -/
def bMixed (kw : BitVec 32) (o : Vec F S128x1 .i32) (x : Vec F S1024x128 .bf16) : FVec F S1024x128 .bf16 :=
  shapeCast S1024x128 (truncf .bf16 (select (bHit kw o) (bX x) (extf .f32 (mulf (extf .bf16 (bCodes kw o x) bitsLt_fp8e4m3_bf16) (broadcastTo S1024x128 (truncf .bf16 (bScale kw o x) bitsLt_bf16_f32) broadcasts_S1024x1_S1024x128)) bitsLt_bf16_f32)) bitsLt_bf16_f32) shapeCasts_S1024x128_S1024x128

/-- One block of a weight tile, its codes times its scale. -/
def wBlock (s : Elt F .f32) (w : Vec F S128x128 .fp8e4m3) : FVec F S128x128 .bf16 :=
  shapeCast S128x128 (mulf (extf .bf16 w bitsLt_fp8e4m3_bf16) (broadcast S128x128 (Scalar.truncf .bf16 bitsLt_bf16_f32 s))) shapeCasts_S128x128_S128x128

/-! ## The blocks' places -/

theorem inbX (kb : Fin 28) : ∀ k, (![0, 128 * kb.val] : Fin 2 → ℕ) k + S1024x128.size k ≤ S1024x3584.size k := by
  revert kb; decide

theorem inbW (kb : Fin 28) (nb : Fin 4) : ∀ k, (![128 * kb.val, 128 * nb.val] : Fin 2 → ℕ) k + S128x128.size k ≤ S3584x512.size k := by
  revert kb nb; decide

/-- Channel block `kb` of a row tile. -/
abbrev rX (kb : Fin 28) : Rect S1024x3584 := Rect.unit (s := S1024x3584) ![0, 128 * kb.val] S1024x128.size (inbX kb)

/-- Block `(kb, nb)` of a weight tile. -/
abbrev rW (kb : Fin 28) (nb : Fin 4) : Rect S3584x512 := Rect.unit (s := S3584x512) ![128 * kb.val, 128 * nb.val] S128x128.size (inbW kb nb)

/-- Where block `(kb, nb)`'s scale lies, as the kernel computes it. -/
def sOff (i : grid0.Coords) (kb : Fin 28) (nb : Fin 4) : Fin 2 → ℕ :=
  ![kb.val, (Scalar.indexCast (Scalar.addi (Scalar.muli (BitVec.ofNat 32 (i 1).val) 4#32) (BitVec.ofNat 32 nb.val)) : Index).toNat]

theorem sOff_one (i : grid0.Coords) (kb : Fin 28) (nb : Fin 4) : sOff i kb nb 1 = 4 * (i 1).val + nb.val := by
  have h : (i 1).val < 34 := (i 1).isLt
  have hn := nb.isLt
  show ((BitVec.ofNat 32 (i 1).val * 4#32 + BitVec.ofNat 32 nb.val : BitVec 32)).toNat = _
  simp only [BitVec.toNat_add, BitVec.toNat_mul, BitVec.toNat_ofNat]
  omega

theorem sOff_inb (i : grid0.Coords) (kb : Fin 28) (nb : Fin 4) : ∀ k, sOff i kb nb k + S1x1.size k ≤ S28x136.size k := by
  have h : (i 1).val < 34 := (i 1).isLt
  have hn := nb.isLt
  have hk := kb.isLt
  intro k
  match k with
  | ⟨0, _⟩ => show kb.val + 1 ≤ 28; omega
  | ⟨1, _⟩ => show sOff i kb nb 1 + 1 ≤ 136; rw [sOff_one]; omega

/-- Block `(kb, nb)`'s scale. -/
abbrev sWord (i : grid0.Coords) (arg3 : Memref sig .tc .smem S28x136 .f32) (harg3 : arg3.IsWhole) (x1 : Vec F S28x136 .f32) (kb : Fin 28) (nb : Fin 4) : Elt F .f32 :=
  arg3.view.readAt (Elt F) (Rect.unit (s := S28x136) (sOff i kb nb) S1x1.size (sOff_inb i kb nb)).toLoadRect (harg3.unread x1) (Shape.Idx.first (numel1_S1x1.symm ▸ Nat.one_pos))

/-- The outlier channels as the body loads them. -/
abbrev ldO (arg5 : Memref sig .tc .vmem S128x1 .i32) (harg5 : arg5.IsWhole) (x3 : Vec F S128x1 .i32) : Vec F S128x1 .i32 :=
  arg5.view.readAt (Elt F) (Rect.unit (s := S128x1) ![0, 0] S128x1.size inb_S128x1_S128x1_0_0).toLoadRect (harg5.unread x3)

/-- A channel block as the body loads it. -/
abbrev ldX (arg4 : Memref sig .tc .vmem S1024x3584 .bf16) (harg4 : arg4.IsWhole) (x2 : Vec F S1024x3584 .bf16) (kb : Fin 28) : Vec F S1024x128 .bf16 :=
  arg4.view.readAt (Elt F) (rX kb).toLoadRect (harg4.unread x2)

/-- A weight block as the body loads it. -/
abbrev ldW (arg7 : Memref sig .tc .vmem S3584x512 .fp8e4m3) (harg7 : arg7.IsWhole) (x5 : Vec F S3584x512 .fp8e4m3) (kb : Fin 28) (nb : Fin 4) : Vec F S128x128 .fp8e4m3 :=
  arg7.view.readAt (Elt F) (rW kb nb).toLoadRect (harg7.unread x5)

/-- The word of a block's first channel. -/
abbrev kWord (kb : Fin 28) : BitVec 32 := BitVec.ofNat 32 (128 * kb.val)

abbrev down28 : List (Fin 28) := [27, 26, 25, 24, 23, 22, 21, 20, 19, 18, 17, 16, 15, 14, 13, 12, 11, 10, 9, 8, 7, 6, 5, 4, 3, 2, 1, 0]
abbrev down4 : List (Fin 4) := [3, 2, 1, 0]

theorem conc28 (f : Fin 28 → S1024x1.Idx → F .f32) :
    Shape.Concatenates ((List.ofFn fun kb : Fin 28 => (⟨S1024x1, f kb⟩ : (s : Shape) × (s.Idx → F .f32))).map (·.1)) S1024x28 1 := by
  rw [List.map_ofFn]; show Shape.Concatenates (List.ofFn fun _ : Fin 28 => S1024x1) S1024x28 1; decide

/-! ## The stores, as lists over the blocks -/

set_option maxHeartbeats 4000000 in
/-- The codes are stored block by block. -/
theorem runA_L7 (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : first i)
    (x0 : Vec F S128 .i32) (x1 : Vec F S28x136 .f32) (x2 : Vec F S1024x3584 .bf16) (x3 : Vec F S128x1 .i32) (x4 : Vec F S128x512 .bf16) (x5 : Vec F S3584x512 .fp8e4m3) (hidx : InRange arg2 harg2 x0)  :
    (runA (F := F) c i arg2 harg2 arg3 harg3 arg4 harg4 arg5 harg5 arg6 harg6 arg7 harg7 arg8 harg8 arg9 harg9 arg10 harg10 arg11 harg11 arg12 harg12 arg13 harg13 hc x0 x1 x2 x3 x4 x5 hidx).2.1 = down28.map fun kb => (⟨rX kb, bCodes (kWord kb) (ldO arg5 harg5 x3) (ldX arg4 harg4 x2 kb)⟩ : View.Piece (Elt F) S1024x3584 .fp8e4m3) := by
  unfold runA
  dsimp only
  sl_unfold_words
  sl_kernel_rfl

set_option maxHeartbeats 4000000 in
/-- The scales are stored at once, a column for each block. -/
theorem runA_L8 (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : first i)
    (x0 : Vec F S128 .i32) (x1 : Vec F S28x136 .f32) (x2 : Vec F S1024x3584 .bf16) (x3 : Vec F S128x1 .i32) (x4 : Vec F S128x512 .bf16) (x5 : Vec F S3584x512 .fp8e4m3) (hidx : InRange arg2 harg2 x0)  :
    (runA (F := F) c i arg2 harg2 arg3 harg3 arg4 harg4 arg5 harg5 arg6 harg6 arg7 harg7 arg8 harg8 arg9 harg9 arg10 harg10 arg11 harg11 arg12 harg12 arg13 harg13 hc x0 x1 x2 x3 x4 x5 hidx).2.2.1 = [(⟨Rect.unit (s := S1024x28) ![0, 0] S1024x28.size inb_S1024x28_S1024x28_0_0,
      concatenate S1024x28 1 (List.ofFn fun kb : Fin 28 => (⟨S1024x1, bScale (kWord kb) (ldO arg5 harg5 x3) (ldX arg4 harg4 x2 kb)⟩ : (s : Shape) × (s.Idx → F .f32))) (conc28 _)⟩ : View.Piece (Elt F) S1024x28 .f32)] := by
  unfold runA
  dsimp only
  sl_unfold_words
  sl_kernel_rfl

set_option maxHeartbeats 4000000 in
/-- The tile the product reads is stored block by block. -/
theorem runA_LS (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : first i)
    (x0 : Vec F S128 .i32) (x1 : Vec F S28x136 .f32) (x2 : Vec F S1024x3584 .bf16) (x3 : Vec F S128x1 .i32) (x4 : Vec F S128x512 .bf16) (x5 : Vec F S3584x512 .fp8e4m3) (hidx : InRange arg2 harg2 x0)  :
    (runA (F := F) c i arg2 harg2 arg3 harg3 arg4 harg4 arg5 harg5 arg6 harg6 arg7 harg7 arg8 harg8 arg9 harg9 arg10 harg10 arg11 harg11 arg12 harg12 arg13 harg13 hc x0 x1 x2 x3 x4 x5 hidx).2.2.2.1 = down28.map fun kb => (⟨rX kb, bMixed (kWord kb) (ldO arg5 harg5 x3) (ldX arg4 harg4 x2 kb)⟩ : View.Piece (Elt F) S1024x3584 .bf16) := by
  unfold runA
  dsimp only
  sl_unfold_words
  sl_kernel_rfl

set_option maxHeartbeats 4000000 in
/-- The outlier weights are widened into scratch at once. -/
abbrev woPieces (arg6 : Memref sig .tc .vmem S128x512 .bf16) (harg6 : arg6.IsWhole) (x4 : Vec F S128x512 .bf16) : List (View.Piece (Elt F) S128x512 .f32) :=
  [⟨Rect.unit (s := S128x512) ![0, 0] S128x512.size inb_S128x512_S128x512_0_0, k0_pay2 (arg6.view.readAt (Elt F) (Rect.unit (s := S128x512) ![0, 0] S128x512.size inb_S128x512_S128x512_0_0).toLoadRect (harg6.unread x4))⟩]

/-- The weight tile is stored block by block. -/
abbrev wPieces (i : grid0.Coords) (arg3 : Memref sig .tc .smem S28x136 .f32) (harg3 : arg3.IsWhole) (arg7 : Memref sig .tc .vmem S3584x512 .fp8e4m3) (harg7 : arg7.IsWhole) (x1 : Vec F S28x136 .f32) (x5 : Vec F S3584x512 .fp8e4m3) : List (View.Piece (Elt F) S3584x512 .bf16) :=
  down28.flatMap fun kb => down4.map fun nb => (⟨rW kb nb, wBlock (sWord i arg3 harg3 x1 kb nb) (ldW arg7 harg7 x5 kb nb)⟩ : View.Piece (Elt F) S3584x512 .bf16)

/-- What the loop over the outlier channels stores into the weight tile. -/
abbrev putPieces (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (x0 : Vec F S128 .i32) (x1 : Vec F S28x136 .f32) (x4 : Vec F S128x512 .bf16) (x5 : Vec F S3584x512 .fp8e4m3) (hidx : InRange arg2 harg2 x0) : List (View.Piece (Elt F) S3584x512 .bf16) :=
  pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (arg13.view.writes (Elt F) arg13.view.junk (woPieces arg6 harg6 x4)) (arg12.view.writes (Elt F) arg12.view.junk (wPieces i arg3 harg3 arg7 harg7 x1 x5)) hidx (Scf.trips (0#32 : BitVec 32) 128#32 1#32)

set_option maxHeartbeats 4000000 in
/-- The product tile is stored at once: the product of the tile in scratch and the finished weight tile. -/
theorem runB_L6 (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : ¬ first i)
    (x0 : Vec F S128 .i32) (x1 : Vec F S28x136 .f32) (x2 : Vec F S1024x3584 .bf16) (x3 : Vec F S128x1 .i32) (x4 : Vec F S128x512 .bf16) (x5 : Vec F S3584x512 .fp8e4m3) (xs : Vec F S1024x3584 .bf16) (hidx : InRange arg2 harg2 x0)  :
    (runB (F := F) c i arg2 harg2 arg3 harg3 arg4 harg4 arg5 harg5 arg6 harg6 arg7 harg7 arg8 harg8 arg9 harg9 arg10 harg10 arg11 harg11 arg12 harg12 arg13 harg13 hc x0 x1 x2 x3 x4 x5 xs hidx).1 = [(⟨Rect.unit (s := S1024x512) ![0, 0] S1024x512.size inb_S1024x512_S1024x512_0_0,
      k0_pay4 (arg11.view.readAt (Elt F) (Rect.unit (s := S1024x3584) ![0, 0] S1024x3584.size inb_S1024x3584_S1024x3584_0_0).toLoadRect (harg11.unread xs))
        (arg12.view.readAt (Elt F) (Rect.unit (s := S3584x512) ![0, 0] S3584x512.size inb_S3584x512_S3584x512_0_0).toLoadRect
          (arg12.view.writes (Elt F) arg12.view.junk (putPieces c i arg2 harg2 arg3 harg3 arg4 harg4 arg5 harg5 arg6 harg6 arg7 harg7 arg8 harg8 arg9 harg9 arg10 harg10 arg11 harg11 arg12 harg12 arg13 harg13 x0 x1 x4 x5 hidx ++ wPieces i arg3 harg3 arg7 harg7 x1 x5)))⟩ : View.Piece (Elt F) S1024x512 .bf16)] := by
  unfold runB
  dsimp only
  sl_unfold_words
  sl_kernel_rfl

set_option maxHeartbeats 4000000 in
/-- At a point of column tile 0 the product reads the tile it has just quantised. -/
theorem runA_L6 (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole) (hc : first i)
    (x0 : Vec F S128 .i32) (x1 : Vec F S28x136 .f32) (x2 : Vec F S1024x3584 .bf16) (x3 : Vec F S128x1 .i32) (x4 : Vec F S128x512 .bf16) (x5 : Vec F S3584x512 .fp8e4m3) (hidx : InRange arg2 harg2 x0)  :
    (runA (F := F) c i arg2 harg2 arg3 harg3 arg4 harg4 arg5 harg5 arg6 harg6 arg7 harg7 arg8 harg8 arg9 harg9 arg10 harg10 arg11 harg11 arg12 harg12 arg13 harg13 hc x0 x1 x2 x3 x4 x5 hidx).1 = [(⟨Rect.unit (s := S1024x512) ![0, 0] S1024x512.size inb_S1024x512_S1024x512_0_0,
      k0_pay4 (arg11.view.readAt (Elt F) (Rect.unit (s := S1024x3584) ![0, 0] S1024x3584.size inb_S1024x3584_S1024x3584_0_0).toLoadRect
          (arg11.view.writes (Elt F) arg11.view.junk (down28.map fun kb => (⟨rX kb, bMixed (kWord kb) (ldO arg5 harg5 x3) (ldX arg4 harg4 x2 kb)⟩ : View.Piece (Elt F) S1024x3584 .bf16))))
        (arg12.view.readAt (Elt F) (Rect.unit (s := S3584x512) ![0, 0] S3584x512.size inb_S3584x512_S3584x512_0_0).toLoadRect
          (arg12.view.writes (Elt F) arg12.view.junk (putPieces c i arg2 harg2 arg3 harg3 arg4 harg4 arg5 harg5 arg6 harg6 arg7 harg7 arg8 harg8 arg9 harg9 arg10 harg10 arg11 harg11 arg12 harg12 arg13 harg13 x0 x1 x4 x5 hidx ++ wPieces i arg3 harg3 arg7 harg7 x1 x5)))⟩ : View.Piece (Elt F) S1024x512 .bf16)] := by
  unfold runA
  dsimp only
  sl_unfold_words
  sl_kernel_rfl

end Cert.KernelIdeal.Run

end
-- ==== Proof.PI.Tiles.lean ====
/-
  The kernel's values of one channel block and of one weight block, at an index, as the functions of `Cert.Spec`.
-/
module

public import proofs.«01_k».proof.Proof.PI.Blocks
public import proofs.«01_k».proof.Proof.Spec
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe

section
theorem lane_lt (kb : Fin 28) (l : Fin 128) : kb.val * 128 + l.val < 3584 := by omega

variable (id : Fin 128 → BitVec 32) (hlt : ∀ k, (id k).toNat < 3584) (o : Vec Ideal S128x1 .i32) (ho : ∀ k : Fin 128, o (ix2 k 0) = id k)
variable (kb : Fin 28) (x : Vec Ideal S1024x128 .bf16) (X : Fin 6144 → Fin 3584 → EReal) (R : Fin 1024 → Fin 6144)
variable (hx : ∀ (r : Fin 1024) (l : Fin 128), x (ix2 r l) = X (R r) ⟨kb.val * 128 + l.val, lane_lt kb l⟩)

/-- The word of a block's lane. -/
theorem lane_toNat (kb : Fin 28) (l : Fin 128) : (IntOp.addi (BitVec.ofNat 32 l.val) (kWord kb)).toNat = kb.val * 128 + l.val := by
  show (BitVec.ofNat 32 l.val + BitVec.ofNat 32 (128 * kb.val)).toNat = _
  rw [BitVec.toNat_add, BitVec.toNat_ofNat, BitVec.toNat_ofNat]
  have := l.isLt
  have := kb.isLt
  omega

/-- Words are compared as numbers. -/
theorem cmp_eq (a b : BitVec 32) : IntOp.cmpi .eq a b = BitVec.ofBool (decide (a.toNat = b.toNat)) := by
  have h : (a == b) = decide (a.toNat = b.toNat) := by
    rw [Bool.eq_iff_iff, beq_iff_eq, decide_eq_true_iff]
    exact ⟨fun h => congrArg _ h, fun h => BitVec.eq_of_toNat_eq h⟩
  exact congrArg BitVec.ofBool h

include ho
/-- A lane is masked exactly if its channel is listed. -/
theorem mask_at (l : Fin 128) : bMask (F := Ideal) (kWord kb) o (ix2 0 l) = 1#1 ↔ Spec.Hit id (kb.val * 128 + l.val) := by
  have e : bMask (F := Ideal) (kWord kb) o (ix2 0 l) = BitVec.ofBool (decide ((0 : EReal) < Finset.fold max (Ideal.ofBits .f32 4286578688#32)
      (fun x : Fin 128 => FloatOps.sitofp (F := Ideal) .f32 (BitVec.setWidth 32 (IntOp.cmpi .eq (o (ix2 x 0)) (IntOp.addi (BitVec.ofNat 32 ↑l) (kWord kb))))) Finset.univ)) := by
    pointwise [bMask]
  have hcmp : ∀ k : Fin 128, IntOp.cmpi .eq (o (ix2 k 0)) (IntOp.addi (BitVec.ofNat 32 ↑l) (kWord kb)) = BitVec.ofBool (decide ((id k).toNat = kb.val * 128 + l.val)) := fun k => by
    rw [ho k, cmp_eq, lane_toNat]
  rw [e]
  simp only [hcmp]
  have hb : ∀ b : Bool, BitVec.ofBool b = 1#1 ↔ b = true := by decide
  rw [hb, decide_eq_true_iff, Spec.ninf_f32, Finset.lt_fold_max]
  constructor
  · rintro (h | ⟨k, _, h⟩)
    · exact absurd h (by simp)
    · refine ⟨k, ?_⟩
      by_contra hk
      rw [decide_eq_false hk] at h
      have h' : (0 : EReal) < (((0 : ℤ) : ℝ) : EReal) := h
      simp at h'
  · rintro ⟨k, hk⟩
    refine Or.inr ⟨k, Finset.mem_univ _, ?_⟩
    rw [decide_eq_true hk]
    show (0 : EReal) < (((1 : ℤ) : ℝ) : EReal)
    simp

/-- A choice by the mask is a choice by the channel list. -/
theorem select_mask (l : Fin 128) (a b : EReal) : Scalar.select (bMask (F := Ideal) (kWord kb) o (ix2 0 l)) a b
    = @ite _ (Spec.Hit id (kb.val * 128 + l.val)) (Classical.propDecidable _) a b := by
  by_cases h : Spec.Hit id (kb.val * 128 + l.val)
  · rw [if_pos h, (mask_at id o ho kb l).2 h]
    rfl
  · have h0 : bMask (F := Ideal) (kWord kb) o (ix2 0 l) = 0#1 := by
      have h1 := fun h' => h ((mask_at id o ho kb l).1 h')
      generalize bMask (F := Ideal) (kWord kb) o (ix2 0 l) = w at h1 ⊢
      revert w; decide
    rw [if_neg h, h0]
    rfl

include hx
/-- The cleared block. -/
theorem val_at (r : Fin 1024) (l : Fin 128) : bVal (F := Ideal) (kWord kb) o x (ix2 r l) = Spec.keep X id (R r) ⟨kb.val * 128 + l.val, lane_lt kb l⟩ := by
  have e : bVal (F := Ideal) (kWord kb) o x (ix2 r l) = Scalar.select (bMask (F := Ideal) (kWord kb) o (ix2 0 l)) (0 : EReal) (x (ix2 r l)) := by
    pointwise [bVal, bHit, bX]
  rw [e, select_mask id o ho, hx]
  rfl

/-- The scaled largest magnitude. -/
theorem amax_at (r : Fin 1024) : bAmax (F := Ideal) (kWord kb) o x (ix2 r 0) = Spec.top X id (R r) kb := by
  have e : bAmax (F := Ideal) (kWord kb) o x (ix2 r 0) = Finset.fold max (Ideal.ofBits .f32 4286578688#32)
      (fun l : Fin 128 => FloatOps.absf (F := Ideal) (φ := .f32) (bVal (F := Ideal) (kWord kb) o x (ix2 r l))) Finset.univ * Ideal.ofBits .f32 991054117#32 := by
    pointwise [bAmax]
  rw [e]
  simp only [val_at id o ho kb x X R hx]
  rfl

/-- The scale's bits. -/
theorem bits_at (r : Fin 1024) : bBits (F := Ideal) (kWord kb) o x (ix2 r 0) = Scale.scaleBits (Spec.top X id (R r) kb) := by
  have e1 : bTop (F := Ideal) (kWord kb) o x (ix2 r 0) = Scale.topBits (bAmax (F := Ideal) (kWord kb) o x (ix2 r 0)) := by
    unfold Scale.topBits
    pointwise [bTop, k0_pay6, k0_pay5]
  have e2 : bBits (F := Ideal) (kWord kb) o x (ix2 r 0) = Scale.scaleBits (bAmax (F := Ideal) (kWord kb) o x (ix2 r 0)) := by
    unfold Scale.scaleBits
    rw [← e1]
    pointwise [bBits]
  rw [e2, amax_at id o ho kb x X R hx]

/-- The scale. -/
theorem scale_at (r : Fin 1024) : bScale (F := Ideal) (kWord kb) o x (ix2 r 0) = Spec.scale X id (R r) kb := by
  have e : bScale (F := Ideal) (kWord kb) o x (ix2 r 0) = Ideal.ofBits .f32 (bBits (F := Ideal) (kWord kb) o x (ix2 r 0)) := by
    pointwise [bScale]
  rw [e, bits_at id o ho kb x X R hx]
  rfl

/-- The inverse scale. -/
theorem inv_at (r : Fin 1024) : bInv (F := Ideal) (kWord kb) o x (ix2 r 0) = Scale.inv (Spec.top X id (R r) kb) := by
  have e : bInv (F := Ideal) (kWord kb) o x (ix2 r 0) = Ideal.ofBits .f32 (IntOp.subi 2130706432#32 (bBits (F := Ideal) (kWord kb) o x (ix2 r 0))) := by
    pointwise [bInv]
  rw [e, bits_at id o ho kb x X R hx]
  rfl

omit ho hx in
/-- The block of a channel. -/
theorem blk_of (l : Fin 128) (h : (kb.val * 128 + l.val) / 128 < 28) : (⟨(kb.val * 128 + l.val) / 128, h⟩ : Fin 28) = kb :=
  Fin.ext (by show (kb.val * 128 + l.val) / 128 = kb.val; have := l.isLt; omega)

/-- The codes. -/
theorem codes_at (r : Fin 1024) (l : Fin 128) : bCodes (F := Ideal) (kWord kb) o x (ix2 r l) = Spec.code X id (R r) ⟨kb.val * 128 + l.val, lane_lt kb l⟩ := by
  have e : bCodes (F := Ideal) (kWord kb) o x (ix2 r l) = (min (Ideal.ofBits .f32 1138753536#32) (max (Ideal.ofBits .f32 3286237184#32)
      (bVal (F := Ideal) (kWord kb) o x (ix2 r l) * bInv (F := Ideal) (kWord kb) o x (ix2 r 0))) : EReal) := by
    pointwise [bCodes]
  rw [e, val_at id o ho kb x X R hx, inv_at id o ho kb x X R hx]
  unfold Spec.code
  dsimp only
  rw [blk_of]

/-- What the product reads. -/
theorem mixed_at (r : Fin 1024) (l : Fin 128) : bMixed (F := Ideal) (kWord kb) o x (ix2 r l) = Spec.mixX X id (R r) ⟨kb.val * 128 + l.val, lane_lt kb l⟩ := by
  have e : bMixed (F := Ideal) (kWord kb) o x (ix2 r l) = Scalar.select (bMask (F := Ideal) (kWord kb) o (ix2 0 l)) (x (ix2 r l) : EReal)
      (bCodes (F := Ideal) (kWord kb) o x (ix2 r l) * bScale (F := Ideal) (kWord kb) o x (ix2 r 0)) := by
    pointwise [bMixed, bHit, bX]
  rw [e, select_mask id o ho, hx, codes_at id o ho kb x X R hx, scale_at id o ho kb x X R hx]
  unfold Spec.mixX Spec.quant
  dsimp only
  rw [blk_of]
end

/-- A weight block. -/
theorem wBlock_at (s : EReal) (w : Vec Ideal S128x128 .fp8e4m3) (a b : Fin 128) : wBlock (F := Ideal) s w (ix2 a b) = (w (ix2 a b) * s : EReal) := by
  pointwise [wBlock]
/-- The product. -/
theorem prod_at (a : Vec Ideal S1024x3584 .bf16) (w : Vec Ideal S3584x512 .bf16) (r : Fin 1024) (n : Fin 512) :
    k0_pay4 a w (ix2 r n) = ∑ d, (a (ix2 r d) * w (ix2 d n) : EReal) := by
  pointwise [k0_pay4]
/-- The outlier weights, widened. -/
theorem wide_at (w : Vec Ideal S128x512 .bf16) (k : Fin 128) (n : Fin 512) : k0_pay2 w (ix2 k n) = w (ix2 k n) := by
  pointwise [k0_pay2]
/-- A pair of weight rows with one of them replaced. -/
theorem put_at (w : BitVec 32) (row : Vec Ideal S1x512 .f32) (old : Vec Ideal S2x512 .bf16) (a : Fin 2) (n : Fin 512) :
    k0_pay3 w row old (ix2 a n) = Scalar.select (IntOp.cmpi .eq (BitVec.ofNat 32 a.val) (Scalar.andi w 1#32)) (row (ix2 0 n) : EReal) (old (ix2 a n)) := by
  pointwise [k0_pay3]

end Cert.KernelIdeal.Run
-- ==== Proof.PI.Loop.lean ====
/-
  The loop that puts the outlier weights in place, trip by trip: after `n` trips the rows of the weight tile that the first `n` channel
  numbers name are the outlier weights' rows, and the other rows are as they were.
-/
module

public import proofs.«01_k».proof.Proof.PI.Tiles
public import proofs.«01_k».proof.Proof.PI.Chk
public import Idealize.ShloMosaic.Lib.WritesUnit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-- A trip stores one pair of rows. -/
theorem trip_eq {F : FTy → Type} [FloatOps F] (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole)
    (X2 : BufTy.Contents (Elt F) arg2.view.ty) (X13 : BufTy.Contents (Elt F) arg13.view.ty) (k : Fin k0_t1_loop.trips) (hw : k0_chk1 (arg2.view.readAt (Elt F) (Rect.unit (s := S128) (k0_off29 k) S1.size (k0_off29_inb k)).toLoadRect X2 (Shape.Idx.first (numel1_S1.symm ▸ Nat.one_pos)))) (f : BufTy.Contents (Elt F) arg12.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 X2 X13 k hw f
      = [(⟨Rect.unit (s := S3584x512) (k0_off31 (arg2.view.readAt (Elt F) (Rect.unit (s := S128) (k0_off29 k) S1.size (k0_off29_inb k)).toLoadRect X2 (Shape.Idx.first (numel1_S1.symm ▸ Nat.one_pos)))) S2x512.size (k0_off31_inb (arg2.view.readAt (Elt F) (Rect.unit (s := S128) (k0_off29 k) S1.size (k0_off29_inb k)).toLoadRect X2 (Shape.Idx.first (numel1_S1.symm ▸ Nat.one_pos))) hw),
          k0_pay3 (arg2.view.readAt (Elt F) (Rect.unit (s := S128) (k0_off29 k) S1.size (k0_off29_inb k)).toLoadRect X2 (Shape.Idx.first (numel1_S1.symm ▸ Nat.one_pos))) (arg13.view.readAt (Elt F) (Rect.unit (s := S128x512) (k0_off30 k) S1x512.size (k0_off30_inb k)).toLoadRect X13)
            (arg12.view.readAt (Elt F) (Rect.unit (s := S3584x512) (k0_off31 (arg2.view.readAt (Elt F) (Rect.unit (s := S128) (k0_off29 k) S1.size (k0_off29_inb k)).toLoadRect X2 (Shape.Idx.first (numel1_S1.symm ▸ Nat.one_pos)))) S2x512.size (k0_off31_inb (arg2.view.readAt (Elt F) (Rect.unit (s := S128) (k0_off29 k) S1.size (k0_off29_inb k)).toLoadRect X2 (Shape.Idx.first (numel1_S1.symm ▸ Nat.one_pos))) hw)).toLoadRect f)⟩ : View.Piece (Elt F) S3584x512 .bf16)] := by
  unfold tripL_k0_t1 trip_k0_t1
  sl_unfold_words
  sl_kernel_rfl

/-- Whether a row of a pair is the one to replace. -/
theorem parity (w : BitVec 32) (a : Fin 2) (p q : EReal) :
    Scalar.select (IntOp.cmpi .eq (BitVec.ofNat 32 a.val) (Scalar.andi w 1#32)) p q = if a.val = w.toNat % 2 then p else q := by
  rw [cmp_eq, Cert.Words.parity_toNat, BitVec.toNat_ofNat]
  have ha : a.val % 2 ^ 32 = a.val := Nat.mod_eq_of_lt (by have := a.isLt; omega)
  rw [ha]
  by_cases h : a.val = w.toNat % 2
  · rw [if_pos h, decide_eq_true h]; rfl
  · rw [if_neg h, decide_eq_false h]; rfl

/-- One pair of rows stored: row `w` becomes the given one, the others stay. -/
theorem put_pair {sp : Space} (v : View sig .tc sp S3584x512 .bf16) (f : v.ty.Contents (Elt Ideal)) (w : BitVec 32) (hlt : w.toNat < 3584) (hw : k0_chk1 w)
    (row : Vec Ideal S1x512 .f32) (d : Fin 3584) (n : Fin 512) :
    v.read (Elt Ideal) (v.writes (Elt Ideal) f [(⟨Rect.unit (s := S3584x512) (k0_off31 w) S2x512.size (k0_off31_inb w hw),
        k0_pay3 w row (v.readAt (Elt Ideal) (Rect.unit (s := S3584x512) (k0_off31 w) S2x512.size (k0_off31_inb w hw)).toLoadRect f)⟩ : View.Piece (Elt Ideal) S3584x512 .bf16)]) (ix2 d n)
      = if d.val = w.toNat then (row (ix2 0 n) : EReal) else v.read (Elt Ideal) f (ix2 d n) := by
  have h0 : (k0_off31 w) 0 = 2 * (w.toNat / 2) := Cert.Words.pair_toNat w hlt
  have h1 : (k0_off31 w) 1 = 0 := rfl
  by_cases h : 2 * (w.toNat / 2) ≤ d.val ∧ d.val < 2 * (w.toNat / 2) + 2
  · have ha : d.val - 2 * (w.toNat / 2) < 2 := by omega
    have hpos : ∀ a, ((ix2 d n : S3584x512.Idx) a).val = (k0_off31 w) a + ((ix2 (⟨d.val - 2 * (w.toNat / 2), ha⟩ : Fin 2) n : S2x512.Idx) a).val := by
      intro a
      fin_cases a
      · show d.val = (k0_off31 w) 0 + (d.val - 2 * (w.toNat / 2)); omega
      · show n.val = (k0_off31 w) 1 + n.val; omega
    rw [View.read_writes_cons_unit_of_mem v f (k0_off31_inb w hw) _ [] (ix2 d n) (ix2 (⟨d.val - 2 * (w.toNat / 2), ha⟩ : Fin 2) n) rfl hpos]
    rw [put_at, parity]
    have e : (Rect.unit (s := S3584x512) (k0_off31 w) S2x512.size (k0_off31_inb w hw)).emb (ix2 (⟨d.val - 2 * (w.toNat / 2), ha⟩ : Fin 2) n) = ix2 d n :=
      funext fun a => Fin.ext (by
        rw [hpos a]
        show (k0_off31 w) a + 1 * _ = _
        rw [Nat.one_mul])
    by_cases hd : d.val = w.toNat
    · rw [if_pos hd, if_pos (by show d.val - 2 * (w.toNat / 2) = _; omega)]
    · rw [if_neg hd, if_neg (by show ¬ d.val - 2 * (w.toNat / 2) = _; omega)]
      exact congrArg (v.read (Elt Ideal) f) e
  · have h' : d.val < (k0_off31 w) 0 ∨ (k0_off31 w) 0 + 2 ≤ d.val := by omega
    rw [View.read_writes_cons_unit_of_not_mem v f (k0_off31_inb w hw) _ [] (ix2 d n) rfl (0 : Fin 2) h', if_neg (by omega)]
    rfl

/-- After `n` trips. -/
theorem loop_at (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole)
    (x0 : Vec Ideal S128 .i32) (X13 : BufTy.Contents (Elt Ideal) arg13.view.ty) (G : BufTy.Contents (Elt Ideal) arg12.view.ty) (hidx : InRange arg2 harg2 x0)
    (id : Fin 128 → BitVec 32) (hid : ∀ k : Fin 128, x0 (ix1 k) = id k) (hlt : ∀ k, (id k).toNat < 3584) (hinj : ∀ k l, id k = id l → k = l)
    (q : ℕ) (hq : q ≤ 128) (d : Fin 3584) (n : Fin 512) :
    (∀ k : Fin 128, k.val < q → (id k).toNat = d.val →
      arg12.view.read (Elt Ideal) (arg12.view.writes (Elt Ideal) G (pb_k0_t1 (F := Ideal) Variants.none c none i arg2 harg2 arg3 harg3 arg4 harg4 arg5 harg5 arg6 harg6 arg7 harg7 arg8 harg8 arg9 harg9 arg10 harg10 arg11 harg11 arg12 harg12 arg13 harg13 (harg2.unread x0) X13 G hidx q)) (ix2 d n)
        = arg13.view.read (Elt Ideal) X13 (ix2 k n))
    ∧ ((∀ k : Fin 128, k.val < q → (id k).toNat ≠ d.val) →
      arg12.view.read (Elt Ideal) (arg12.view.writes (Elt Ideal) G (pb_k0_t1 (F := Ideal) Variants.none c none i arg2 harg2 arg3 harg3 arg4 harg4 arg5 harg5 arg6 harg6 arg7 harg7 arg8 harg8 arg9 harg9 arg10 harg10 arg11 harg11 arg12 harg12 arg13 harg13 (harg2.unread x0) X13 G hidx q)) (ix2 d n)
        = arg12.view.read (Elt Ideal) G (ix2 d n)) := by
  have ht : k0_t1_loop.trips = 128 := by decide +kernel
  induction q with
  | zero => exact ⟨fun k hk => absurd hk (Nat.not_lt_zero _), fun _ => rfl⟩
  | succ q ih =>
    have hq' : q < k0_t1_loop.trips := by omega
    obtain ⟨ih1, ih2⟩ := ih (by omega)
    have hword := word_eq arg2 harg2 x0 q hq' (by omega)
    have hword' : arg2.view.readAt (Elt Ideal) (Rect.unit (s := S128) (k0_off29 ⟨q, hq'⟩) S1.size (k0_off29_inb ⟨q, hq'⟩)).toLoadRect (harg2.unread x0) (Shape.Idx.first (numel1_S1.symm ▸ Nat.one_pos)) = id ⟨q, by omega⟩ := by
      rw [hword, ← hid]
      exact congrArg x0 (funext fun a => by fin_cases a; rfl)
    have hrow : arg13.view.readAt (Elt Ideal) (Rect.unit (s := S128x512) (k0_off30 ⟨q, hq'⟩) S1x512.size (k0_off30_inb ⟨q, hq'⟩)).toLoadRect X13 (ix2 0 n) = arg13.view.read (Elt Ideal) X13 (ix2 (⟨q, by omega⟩ : Fin 128) n) := by
      refine congrArg (arg13.view.read (Elt Ideal) X13) (funext fun a => Fin.ext ?_)
      fin_cases a
      · exact (Nat.add_zero _).trans (off30 ⟨q, hq'⟩)
      · show 0 + 1 * n.val = n.val
        omega
    have step : arg12.view.read (Elt Ideal) (arg12.view.writes (Elt Ideal) G (pb_k0_t1 (F := Ideal) Variants.none c none i arg2 harg2 arg3 harg3 arg4 harg4 arg5 harg5 arg6 harg6 arg7 harg7 arg8 harg8 arg9 harg9 arg10 harg10 arg11 harg11 arg12 harg12 arg13 harg13 (harg2.unread x0) X13 G hidx (q + 1))) (ix2 d n)
        = if d.val = (id ⟨q, by omega⟩).toNat then arg13.view.read (Elt Ideal) X13 (ix2 (⟨q, by omega⟩ : Fin 128) n)
          else arg12.view.read (Elt Ideal) (arg12.view.writes (Elt Ideal) G (pb_k0_t1 (F := Ideal) Variants.none c none i arg2 harg2 arg3 harg3 arg4 harg4 arg5 harg5 arg6 harg6 arg7 harg7 arg8 harg8 arg9 harg9 arg10 harg10 arg11 harg11 arg12 harg12 arg13 harg13 (harg2.unread x0) X13 G hidx q)) (ix2 d n) := by
      rw [show pb_k0_t1 (F := Ideal) Variants.none c none i arg2 harg2 arg3 harg3 arg4 harg4 arg5 harg5 arg6 harg6 arg7 harg7 arg8 harg8 arg9 harg9 arg10 harg10 arg11 harg11 arg12 harg12 arg13 harg13 (harg2.unread x0) X13 G hidx (q + 1) = _ from pb_k0_t1_succ (F := Ideal) Variants.none c none i arg2 harg2 arg3 harg3 arg4 harg4 arg5 harg5 arg6 harg6 arg7 harg7 arg8 harg8 arg9 harg9 arg10 harg10 arg11 harg11 arg12 harg12 arg13 harg13 (harg2.unread x0) X13 G hidx ⟨q, hq'⟩]
      have hl : (arg2.view.readAt (Elt Ideal) (Rect.unit (s := S128) (k0_off29 ⟨q, hq'⟩) S1.size (k0_off29_inb ⟨q, hq'⟩)).toLoadRect (harg2.unread x0) (Shape.Idx.first (numel1_S1.symm ▸ Nat.one_pos)) : BitVec 32).toNat < 3584 := by
        rw [hword']; exact hlt _
      rw [View.writes_append, trip_eq, put_pair _ _ _ hl (hidx q hq'), hrow, hword']
    rw [step]
    refine ⟨fun k hk hd => ?_, fun hno => ?_⟩
    · by_cases hkq : k.val = q
      · have e : (⟨q, by omega⟩ : Fin 128) = k := Fin.ext hkq.symm
        rw [e, if_pos hd.symm]
      · rw [if_neg fun h => hkq (congrArg Fin.val (hinj k ⟨q, by omega⟩ (BitVec.eq_of_toNat_eq (hd.trans h))))]
        exact ih1 k (by omega) hd
    · rw [if_neg fun h => hno ⟨q, by omega⟩ (Nat.lt_succ_self q) h.symm]
      exact ih2 fun k hk => hno k (by omega)

end Cert.KernelIdeal.Run
-- ==== Proof.PI.Point.lean ====
/-
  What the body's stores leave in each buffer, index by index: the quantised row tile, the weight tile with the outlier rows in place, and their product.
-/
module

public import proofs.«01_k».proof.Proof.PI.Loop
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-! ## The loads -/

section
variable {F : FTy → Type} [FloatOps F]

theorem rX_emb (kb : Fin 28) (r : Fin 1024) (l : Fin 128) : (rX kb).emb (ix2 r l) = ix2 r ⟨kb.val * 128 + l.val, by omega⟩ :=
  funext fun a => Fin.ext (by
    fin_cases a
    · show 0 + 1 * r.val = r.val; omega
    · show 128 * kb.val + 1 * l.val = kb.val * 128 + l.val; omega)

theorem rW_emb (kb : Fin 28) (nb : Fin 4) (a b : Fin 128) : (rW kb nb).emb (ix2 a b) = ix2 ⟨kb.val * 128 + a.val, by omega⟩ ⟨nb.val * 128 + b.val, by omega⟩ :=
  funext fun x => Fin.ext (by
    fin_cases x
    · show 128 * kb.val + 1 * a.val = kb.val * 128 + a.val; omega
    · show 128 * nb.val + 1 * b.val = nb.val * 128 + b.val; omega)

theorem ldO_at (arg5 : Memref sig .tc .vmem S128x1 .i32) (harg5 : arg5.IsWhole) (x3 : Vec F S128x1 .i32) (k : Fin 128) : ldO arg5 harg5 x3 (ix2 k 0) = x3 (ix2 k 0) := by
  refine (harg5.readAt_unread x3 _ _).trans (congrArg x3 (funext fun a => Fin.ext ?_))
  fin_cases a
  · show 0 + 1 * k.val = k.val; omega
  · rfl
theorem ldX_at (arg4 : Memref sig .tc .vmem S1024x3584 .bf16) (harg4 : arg4.IsWhole) (x2 : Vec F S1024x3584 .bf16) (kb : Fin 28) (r : Fin 1024) (l : Fin 128) :
    ldX arg4 harg4 x2 kb (ix2 r l) = x2 (ix2 r ⟨kb.val * 128 + l.val, by omega⟩) :=
  (harg4.readAt_unread x2 _ _).trans (congrArg x2 (rX_emb kb r l))
theorem ldW_at (arg7 : Memref sig .tc .vmem S3584x512 .fp8e4m3) (harg7 : arg7.IsWhole) (x5 : Vec F S3584x512 .fp8e4m3) (kb : Fin 28) (nb : Fin 4) (a b : Fin 128) :
    ldW arg7 harg7 x5 kb nb (ix2 a b) = x5 (ix2 ⟨kb.val * 128 + a.val, by omega⟩ ⟨nb.val * 128 + b.val, by omega⟩) :=
  (harg7.readAt_unread x5 _ _).trans (congrArg x5 (rW_emb kb nb a b))
theorem col_lt (i : grid0.Coords) (nb : ℕ) (h : nb < 4) : 4 * (i 1).val + nb < 136 := by
  have h : (i 1).val < 34 := (i 1).isLt
  omega
theorem sWord_at (i : grid0.Coords) (arg3 : Memref sig .tc .smem S28x136 .f32) (harg3 : arg3.IsWhole) (x1 : Vec F S28x136 .f32) (kb : Fin 28) (nb : Fin 4) :
    sWord i arg3 harg3 x1 kb nb = x1 (ix2 kb ⟨4 * (i 1).val + nb.val, col_lt i nb.val nb.isLt⟩) := by
  refine (harg3.readAt_unread x1 _ _).trans (congrArg x1 (funext fun a => Fin.ext ?_))
  fin_cases a
  · rfl
  · exact (Nat.add_zero _).trans (sOff_one i kb nb)
end

/-! ## Stores block by block -/

theorem mem28 : ∀ kb : Fin 28, kb ∈ down28 := by decide
theorem mem4 : ∀ nb : Fin 4, nb ∈ down4 := by decide

/-- A row tile stored block by block. -/
theorem tile_at {sp : Space} {e : EltTy} (v : View sig .tc sp S1024x3584 e) (f : v.ty.Contents (Elt Ideal)) (w : Fin 28 → Vec Ideal S1024x128 e)
    (G : Fin 1024 → Fin 3584 → Elt Ideal e) (h : ∀ (kb : Fin 28) (r : Fin 1024) (l : Fin 128), w kb (ix2 r l) = G r ⟨kb.val * 128 + l.val, by omega⟩) (r : Fin 1024) (d : Fin 3584) :
    v.read (Elt Ideal) (v.writes (Elt Ideal) f (down28.map fun kb => (⟨rX kb, w kb⟩ : View.Piece (Elt Ideal) S1024x3584 e))) (ix2 r d) = G r d := by
  refine View.read_writes_apply_of_pieces v f (fun y => G (y 0) (y 1)) _ (fun p hp x => ?_) (ix2 r d) ?_
  · obtain ⟨kb, _, rfl⟩ := List.mem_map.1 hp
    obtain ⟨a, b, rfl⟩ : ∃ (a : Fin 1024) (b : Fin 128), x = ix2 a b := ⟨x 0, x 1, (ix2_eta _).symm⟩
    show w kb (ix2 a b) = _
    rw [h kb a b]
    show _ = (fun y : S1024x3584.Idx => G (y 0) (y 1)) ((rX kb).emb (ix2 a b))
    rw [rX_emb]
    rfl
  · refine ⟨_, List.mem_map.2 ⟨⟨d.val / 128, by omega⟩, mem28 _, rfl⟩, ?_⟩
    rw [Rect.mem_set_unit]
    intro a
    fin_cases a
    · show 0 ≤ r.val ∧ r.val < 0 + 1024; omega
    · show 128 * (d.val / 128) ≤ d.val ∧ d.val < 128 * (d.val / 128) + 128; omega

/-- A weight tile stored block by block. -/
theorem wtile_at {sp : Space} (v : View sig .tc sp S3584x512 .bf16) (f : v.ty.Contents (Elt Ideal)) (w : Fin 28 → Fin 4 → Vec Ideal S128x128 .bf16)
    (G : Fin 3584 → Fin 512 → EReal) (h : ∀ (kb : Fin 28) (nb : Fin 4) (a b : Fin 128), w kb nb (ix2 a b) = G ⟨kb.val * 128 + a.val, by omega⟩ ⟨nb.val * 128 + b.val, by omega⟩) (d : Fin 3584) (n : Fin 512) :
    v.read (Elt Ideal) (v.writes (Elt Ideal) f (down28.flatMap fun kb => down4.map fun nb => (⟨rW kb nb, w kb nb⟩ : View.Piece (Elt Ideal) S3584x512 .bf16))) (ix2 d n) = G d n := by
  refine View.read_writes_apply_of_pieces v f (fun y => G (y 0) (y 1)) _ (fun p hp x => ?_) (ix2 d n) ?_
  · obtain ⟨kb, _, hp⟩ := List.mem_flatMap.1 hp
    obtain ⟨nb, _, rfl⟩ := List.mem_map.1 hp
    obtain ⟨a, b, rfl⟩ : ∃ (a : Fin 128) (b : Fin 128), x = ix2 a b := ⟨x 0, x 1, (ix2_eta _).symm⟩
    show w kb nb (ix2 a b) = _
    rw [h kb nb a b]
    show _ = (fun y : S3584x512.Idx => G (y 0) (y 1)) ((rW kb nb).emb (ix2 a b))
    rw [rW_emb]
    rfl
  · refine ⟨_, List.mem_flatMap.2 ⟨⟨d.val / 128, by omega⟩, mem28 _, List.mem_map.2 ⟨⟨n.val / 128, by omega⟩, mem4 _, rfl⟩⟩, ?_⟩
    rw [Rect.mem_set_unit]
    intro a
    fin_cases a
    · show 128 * (d.val / 128) ≤ d.val ∧ d.val < 128 * (d.val / 128) + 128; omega
    · show 128 * (n.val / 128) ≤ n.val ∧ n.val < 128 * (n.val / 128) + 128; omega

/-! ## The weight tile -/

/-- The finished weight tile, at a column inside the array: outlier rows in listed channels, scaled codes elsewhere. -/
theorem weights_at (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole)
    (x0 : Vec Ideal S128 .i32) (x1 : Vec Ideal S28x136 .f32) (x4 : Vec Ideal S128x512 .bf16) (x5 : Vec Ideal S3584x512 .fp8e4m3) (hidx : InRange arg2 harg2 x0)
    (id : Fin 128 → BitVec 32) (WO : Fin 128 → Fin 17024 → EReal) (WC : Fin 3584 → Fin 17024 → EReal) (WS : Fin 28 → Fin 133 → EReal)
    (hid : ∀ k : Fin 128, x0 (ix1 k) = id k) (hlt : ∀ k, (id k).toNat < 3584) (hinj : ∀ k l, id k = id l → k = l)
    (h1 : ∀ (b : Fin 28) (q : Fin 133), x1 (ix2 b ⟨q.val, by omega⟩) = WS b q)
    (n : Fin 512) (hn : (i 1).val * 512 + n.val < 17024)
    (h4 : ∀ k : Fin 128, x4 (ix2 k n) = WO k ⟨(i 1).val * 512 + n.val, hn⟩) (h5 : ∀ d : Fin 3584, x5 (ix2 d n) = WC d ⟨(i 1).val * 512 + n.val, hn⟩) (d : Fin 3584) :
    arg12.view.readAt (Elt Ideal) (Rect.unit (s := S3584x512) ![0, 0] S3584x512.size inb_S3584x512_S3584x512_0_0).toLoadRect
          (arg12.view.writes (Elt Ideal) arg12.view.junk (putPieces c i arg2 harg2 arg3 harg3 arg4 harg4 arg5 harg5 arg6 harg6 arg7 harg7 arg8 harg8 arg9 harg9 arg10 harg10 arg11 harg11 arg12 harg12 arg13 harg13 x0 x1 x4 x5 hidx ++ wPieces i arg3 harg3 arg7 harg7 x1 x5)) (ix2 d n)
      = Spec.mixW id WO WC WS d ⟨(i 1).val * 512 + n.val, hn⟩ := by
  have htr : Scf.trips (0#32 : BitVec 32) 128#32 1#32 = 128 := by decide +kernel
  have hwhole : (Rect.unit (s := S3584x512) ![0, 0] S3584x512.size inb_S3584x512_S3584x512_0_0).emb (ix2 d n) = ix2 d n := funext fun a => Fin.ext (by
    fin_cases a
    · show 0 + 1 * d.val = d.val; omega
    · show 0 + 1 * n.val = n.val; omega)
  refine (congrArg (arg12.view.read (Elt Ideal) _) hwhole).trans ?_
  rw [View.writes_append]
  have hloop := loop_at c i arg2 harg2 arg3 harg3 arg4 harg4 arg5 harg5 arg6 harg6 arg7 harg7 arg8 harg8 arg9 harg9 arg10 harg10 arg11 harg11 arg12 harg12 arg13 harg13 x0 (arg13.view.writes (Elt Ideal) arg13.view.junk (woPieces arg6 harg6 x4))
    (arg12.view.writes (Elt Ideal) arg12.view.junk (wPieces i arg3 harg3 arg7 harg7 x1 x5)) hidx id hid hlt hinj 128 (le_refl _) d n
  have hput : putPieces c i arg2 harg2 arg3 harg3 arg4 harg4 arg5 harg5 arg6 harg6 arg7 harg7 arg8 harg8 arg9 harg9 arg10 harg10 arg11 harg11 arg12 harg12 arg13 harg13 x0 x1 x4 x5 hidx = pb_k0_t1 (F := Ideal) Variants.none c none i arg2 harg2 arg3 harg3 arg4 harg4 arg5 harg5 arg6 harg6 arg7 harg7 arg8 harg8 arg9 harg9 arg10 harg10 arg11 harg11 arg12 harg12 arg13 harg13 (harg2.unread x0)
      (arg13.view.writes (Elt Ideal) arg13.view.junk (woPieces arg6 harg6 x4)) (arg12.view.writes (Elt Ideal) arg12.view.junk (wPieces i arg3 harg3 arg7 harg7 x1 x5)) hidx 128 := by
    unfold putPieces
    rw [htr]
  rw [hput]
  by_cases h : Spec.Hit id d.val
  · obtain ⟨k, hk⟩ := h
    rw [hloop.1 k k.isLt hk, Spec.mixW_of_hit WO WC WS hinj k d hk, ← h4 k]
    have hwo : (Rect.unit (s := S128x512) ![0, 0] S128x512.size inb_S128x512_S128x512_0_0).emb (ix2 k n) = ix2 k n := funext fun a => Fin.ext (by
      fin_cases a
      · show 0 + 1 * k.val = k.val; omega
      · show 0 + 1 * n.val = n.val; omega)
    unfold woPieces
    rw [View.read_writes_cons_unit_of_mem arg13.view _ inb_S128x512_S128x512_0_0 _ [] (ix2 k n) (ix2 k n) rfl (fun a => by fin_cases a <;> exact (Nat.zero_add _).symm)]
    rw [wide_at]
    exact (harg6.readAt_unread x4 _ _).trans (congrArg x4 hwo)
  · have hq : (4 * (i 1).val + n.val / 128) < 133 := by omega
    rw [hloop.2 fun k _ hk => h ⟨k, hk⟩, Spec.mixW_of_not_hit WO WC WS d h]
    unfold wPieces
    rw [wtile_at arg12.view _ _ (fun d n => x5 (ix2 d n) * x1 (ix2 ⟨d.val / 128, by omega⟩ ⟨4 * (i 1).val + n.val / 128, col_lt i _ (by omega)⟩)) ?_ d n]
    · unfold Spec.weight
      rw [h5 d]
      have e := h1 ⟨d.val / 128, by omega⟩ ⟨4 * (i 1).val + n.val / 128, hq⟩
      refine congrArg₂ (fun a b : EReal => a * b) rfl (e.trans ?_)
      refine congrArg (WS _) (Fin.ext ?_)
      show 4 * (i 1).val + n.val / 128 = ((i 1).val * 512 + n.val) / 128
      omega
    · intro kb nb a b
      rw [wBlock_at, ldW_at, sWord_at]
      refine congrArg₂ (fun a b : EReal => a * b) rfl (congrArg x1 (funext fun y => Fin.ext ?_))
      fin_cases y
      · show kb.val = (kb.val * 128 + a.val) / 128; omega
      · show 4 * (i 1).val + nb.val = 4 * (i 1).val + (nb.val * 128 + b.val) / 128; omega

end Cert.KernelIdeal.Run
-- ==== Proof.PI.Holds.lean ====
/-
  What the body leaves at a grid point, at the extended reals, in terms of the problem's own formulas.
-/
module

public import proofs.«01_k».proof.Proof.PI.Inputs
public import proofs.«01_k».proof.Proof.PI.Point

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

section
variable (c : Dev nD) (i : grid0.Coords) (arg2 : Memref sig .tc .smem S128 .i32) (harg2 : arg2.IsWhole) (arg3 : Memref sig .tc .smem S28x136 .f32) (harg3 : arg3.IsWhole) (arg4 : Memref sig .tc .vmem S1024x3584 .bf16) (harg4 : arg4.IsWhole) (arg5 : Memref sig .tc .vmem S128x1 .i32) (harg5 : arg5.IsWhole) (arg6 : Memref sig .tc .vmem S128x512 .bf16) (harg6 : arg6.IsWhole) (arg7 : Memref sig .tc .vmem S3584x512 .fp8e4m3) (harg7 : arg7.IsWhole) (arg8 : Memref sig .tc .vmem S1024x512 .bf16) (harg8 : arg8.IsWhole) (arg9 : Memref sig .tc .vmem S1024x3584 .fp8e4m3) (harg9 : arg9.IsWhole) (arg10 : Memref sig .tc .vmem S1024x28 .f32) (harg10 : arg10.IsWhole) (arg11 : Memref sig .tc .vmem S1024x3584 .bf16) (harg11 : arg11.IsWhole) (arg12 : Memref sig .tc .vmem S3584x512 .bf16) (harg12 : arg12.IsWhole) (arg13 : Memref sig .tc .vmem S128x512 .f32) (harg13 : arg13.IsWhole)
variable (hc : first i) (hb : ¬ first i) (x0 : Vec Ideal S128 .i32) (x1 : Vec Ideal S28x136 .f32) (x2 : Vec Ideal S1024x3584 .bf16) (x3 : Vec Ideal S128x1 .i32) (x4 : Vec Ideal S128x512 .bf16) (x5 : Vec Ideal S3584x512 .fp8e4m3) (xs : Vec Ideal S1024x3584 .bf16) (hidx : InRange arg2 harg2 x0)
variable (id : Fin 128 → BitVec 32) (X : Fin 6144 → Fin 3584 → EReal) (R : Fin 1024 → Fin 6144)
variable (WO : Fin 128 → Fin 17024 → EReal) (WC : Fin 3584 → Fin 17024 → EReal) (WS : Fin 28 → Fin 133 → EReal)

/-- The quantised row tile, read back block by block. -/
theorem mixed_tile (h2 : ∀ (r : Fin 1024) (d : Fin 3584), x2 (ix2 r d) = X (R r) d) (h3 : ∀ k : Fin 128, x3 (ix2 k 0) = id k)
    {sp : Space} (v : View sig .tc sp S1024x3584 .bf16) (f : v.ty.Contents (Elt Ideal)) (r : Fin 1024) (d : Fin 3584) :
    v.read (Elt Ideal) (v.writes (Elt Ideal) f (down28.map fun kb => (⟨rX kb, bMixed (kWord kb) (ldO arg5 harg5 x3) (ldX arg4 harg4 x2 kb)⟩ : View.Piece (Elt Ideal) S1024x3584 .bf16))) (ix2 r d)
      = Spec.mixX X id (R r) d :=
  tile_at v f _ (fun r d => Spec.mixX X id (R r) d)
    (fun kb r l => mixed_at id (ldO arg5 harg5 x3) (fun k => (ldO_at arg5 harg5 x3 k).trans (h3 k)) kb (ldX arg4 harg4 x2 kb) X R
      (fun r l => (ldX_at arg4 harg4 x2 kb r l).trans (h2 r _)) r l) r d

/-- The scratch buffer of the quantised row tile. -/
theorem leaves_S (h2 : ∀ (r : Fin 1024) (d : Fin 3584), x2 (ix2 r d) = X (R r) d) (h3 : ∀ k : Fin 128, x3 (ix2 k 0) = id k)
    {sp : Space} (v : View sig .tc sp S1024x3584 .bf16) (f : v.ty.Contents (Elt Ideal)) (r : Fin 1024) (d : Fin 3584) :
    v.read (Elt Ideal) (v.writes (Elt Ideal) f (runA c i arg2 harg2 arg3 harg3 arg4 harg4 arg5 harg5 arg6 harg6 arg7 harg7 arg8 harg8 arg9 harg9 arg10 harg10 arg11 harg11 arg12 harg12 arg13 harg13 hc x0 x1 x2 x3 x4 x5 hidx).2.2.2.1) (ix2 r d) = Spec.mixX X id (R r) d := by
  rw [runA_LS]
  exact mixed_tile arg4 harg4 arg5 harg5 x2 x3 id X R h2 h3 v f r d

/-- The codes. -/
theorem leaves_7 (h2 : ∀ (r : Fin 1024) (d : Fin 3584), x2 (ix2 r d) = X (R r) d) (h3 : ∀ k : Fin 128, x3 (ix2 k 0) = id k)
    {sp : Space} (v : View sig .tc sp S1024x3584 .fp8e4m3) (f : v.ty.Contents (Elt Ideal)) (r : Fin 1024) (d : Fin 3584) :
    v.read (Elt Ideal) (v.writes (Elt Ideal) f (runA c i arg2 harg2 arg3 harg3 arg4 harg4 arg5 harg5 arg6 harg6 arg7 harg7 arg8 harg8 arg9 harg9 arg10 harg10 arg11 harg11 arg12 harg12 arg13 harg13 hc x0 x1 x2 x3 x4 x5 hidx).2.1) (ix2 r d) = Spec.code X id (R r) d := by
  rw [runA_L7]
  exact tile_at v f _ (fun r d => Spec.code X id (R r) d)
    (fun kb r l => codes_at id (ldO arg5 harg5 x3) (fun k => (ldO_at arg5 harg5 x3 k).trans (h3 k)) kb (ldX arg4 harg4 x2 kb) X R
      (fun r l => (ldX_at arg4 harg4 x2 kb r l).trans (h2 r _)) r l) r d

/-- The scales. -/
theorem leaves_8 (h2 : ∀ (r : Fin 1024) (d : Fin 3584), x2 (ix2 r d) = X (R r) d) (h3 : ∀ k : Fin 128, x3 (ix2 k 0) = id k)
    {sp : Space} (v : View sig .tc sp S1024x28 .f32) (f : v.ty.Contents (Elt Ideal)) (r : Fin 1024) (b : Fin 28) :
    v.read (Elt Ideal) (v.writes (Elt Ideal) f (runA c i arg2 harg2 arg3 harg3 arg4 harg4 arg5 harg5 arg6 harg6 arg7 harg7 arg8 harg8 arg9 harg9 arg10 harg10 arg11 harg11 arg12 harg12 arg13 harg13 hc x0 x1 x2 x3 x4 x5 hidx).2.2.1) (ix2 r b) = Spec.scale X id (R r) b := by
  rw [runA_L8]
  refine (View.read_writes_cons_unit_of_mem v _ inb_S1024x28_S1024x28_0_0 _ [] (ix2 r b) (ix2 r b) rfl (fun a => by fin_cases a <;> exact (Nat.zero_add _).symm)).trans ?_
  rw [concatenate_ofFn_unit_apply (t := S1024x28) (s₁ := S1024x1) 1 (fun kb : Fin 28 => bScale (F := Ideal) (kWord kb) (ldO arg5 harg5 x3) (ldX arg4 harg4 x2 kb)) (conc28 _) rfl rfl (ix2 r b) b rfl (ix2 r 0)
    (fun a ha => by
      fin_cases a
      · rfl
      · exact absurd rfl ha)]
  exact scale_at id (ldO arg5 harg5 x3) (fun k => (ldO_at arg5 harg5 x3 k).trans (h3 k)) b (ldX arg4 harg4 x2 b) X R
      (fun r l => (ldX_at arg4 harg4 x2 b r l).trans (h2 r _)) r

variable (hid : ∀ k : Fin 128, x0 (ix1 k) = id k) (hlt : ∀ k, (id k).toNat < 3584) (hinj : ∀ k l, id k = id l → k = l)
  (h1 : ∀ (b : Fin 28) (q : Fin 133), x1 (ix2 b ⟨q.val, by omega⟩) = WS b q)
  (n : Fin 512) (hn : (i 1).val * 512 + n.val < 17024)
  (h4 : ∀ k : Fin 128, x4 (ix2 k n) = WO k ⟨(i 1).val * 512 + n.val, hn⟩) (h5 : ∀ d : Fin 3584, x5 (ix2 d n) = WC d ⟨(i 1).val * 512 + n.val, hn⟩)

theorem whole_row (r : Fin 1024) (d : Fin 3584) : (Rect.unit (s := S1024x3584) ![0, 0] S1024x3584.size inb_S1024x3584_S1024x3584_0_0).emb (ix2 r d) = ix2 r d :=
  funext fun a => Fin.ext (by
    fin_cases a
    · show 0 + 1 * r.val = r.val; omega
    · show 0 + 1 * d.val = d.val; omega)

include hid hlt hinj h1 h4 h5 in
/-- A result tile, at a point of column tile 0. -/
theorem leavesA_6 (h2 : ∀ (r : Fin 1024) (d : Fin 3584), x2 (ix2 r d) = X (R r) d) (h3 : ∀ k : Fin 128, x3 (ix2 k 0) = id k)
    {sp : Space} (v : View sig .tc sp S1024x512 .bf16) (f : v.ty.Contents (Elt Ideal)) (r : Fin 1024) :
    v.read (Elt Ideal) (v.writes (Elt Ideal) f (runA c i arg2 harg2 arg3 harg3 arg4 harg4 arg5 harg5 arg6 harg6 arg7 harg7 arg8 harg8 arg9 harg9 arg10 harg10 arg11 harg11 arg12 harg12 arg13 harg13 hc x0 x1 x2 x3 x4 x5 hidx).1) (ix2 r n) = Spec.y X id WO WC WS (R r) ⟨(i 1).val * 512 + n.val, hn⟩ := by
  rw [runA_L6]
  refine (View.read_writes_cons_unit_of_mem v _ inb_S1024x512_S1024x512_0_0 _ [] (ix2 r n) (ix2 r n) rfl (fun a => by fin_cases a <;> exact (Nat.zero_add _).symm)).trans ?_
  rw [prod_at]
  unfold Spec.y
  refine Finset.sum_congr rfl fun d _ => congrArg₂ (fun a b : EReal => a * b) ?_ ?_
  · exact (congrArg (arg11.view.read (Elt Ideal) _) (whole_row r d)).trans (mixed_tile arg4 harg4 arg5 harg5 x2 x3 id X R h2 h3 arg11.view _ r d)
  · exact weights_at c i arg2 harg2 arg3 harg3 arg4 harg4 arg5 harg5 arg6 harg6 arg7 harg7 arg8 harg8 arg9 harg9 arg10 harg10 arg11 harg11 arg12 harg12 arg13 harg13 x0 x1 x4 x5 hidx id WO WC WS hid hlt hinj h1 n hn h4 h5 d

include hid hlt hinj h1 h4 h5 in
/-- A result tile, at a point of a later column tile. -/
theorem leavesB_6 (hs : ∀ (r : Fin 1024) (d : Fin 3584), xs (ix2 r d) = Spec.mixX X id (R r) d)
    {sp : Space} (v : View sig .tc sp S1024x512 .bf16) (f : v.ty.Contents (Elt Ideal)) (r : Fin 1024) :
    v.read (Elt Ideal) (v.writes (Elt Ideal) f (runB c i arg2 harg2 arg3 harg3 arg4 harg4 arg5 harg5 arg6 harg6 arg7 harg7 arg8 harg8 arg9 harg9 arg10 harg10 arg11 harg11 arg12 harg12 arg13 harg13 hb x0 x1 x2 x3 x4 x5 xs hidx).1) (ix2 r n) = Spec.y X id WO WC WS (R r) ⟨(i 1).val * 512 + n.val, hn⟩ := by
  rw [runB_L6]
  refine (View.read_writes_cons_unit_of_mem v _ inb_S1024x512_S1024x512_0_0 _ [] (ix2 r n) (ix2 r n) rfl (fun a => by fin_cases a <;> exact (Nat.zero_add _).symm)).trans ?_
  rw [prod_at]
  unfold Spec.y
  refine Finset.sum_congr rfl fun d _ => congrArg₂ (fun a b : EReal => a * b) ?_ ?_
  · exact ((harg11.readAt_unread xs _ _).trans (congrArg xs (whole_row r d))).trans (hs r d)
  · exact weights_at c i arg2 harg2 arg3 harg3 arg4 harg4 arg5 harg5 arg6 harg6 arg7 harg7 arg8 harg8 arg9 harg9 arg10 harg10 arg11 harg11 arg12 harg12 arg13 harg13 x0 x1 x4 x5 hidx id WO WC WS hid hlt hinj h1 n hn h4 h5 d
end

variable (m : (ℓ : Loc nD τ sig) → Buf (Elt Ideal) ℓ)

/-- The launch's arrays as the formulas take them. -/
abbrev aX (c : Dev nD) : Fin 6144 → Fin 3584 → EReal := Spec.act (m ((c.tc : Thread nD τ).loc main_arg0))
abbrev aI (c : Dev nD) : Fin 128 → BitVec 32 := Spec.ids (m ((c.tc : Thread nD τ).loc main_arg1))
abbrev aO (c : Dev nD) : Fin 128 → Fin 17024 → EReal := Spec.mat (m ((c.tc : Thread nD τ).loc main_arg2))
abbrev aW (c : Dev nD) : Fin 3584 → Fin 17024 → EReal := Spec.mat (m ((c.tc : Thread nD τ).loc main_arg3))
abbrev aS (c : Dev nD) : Fin 28 → Fin 133 → EReal := Spec.mat (m ((c.tc : Thread nD τ).loc main_arg4))

/-- What the body is to leave at each point: the formulas, at the point's rows and, for the result, at its columns inside the array. -/
def claims : Claims Ideal where
  S c i x := ∀ (r : Fin 1024) (d : Fin 3584), x (ix2 r d) = Spec.mixX (aX m c) (aI m c) (Spec.rowOf i r) d
  P6 c t x := ∀ (r : Fin 1024) (n : Fin 512) (hn : (grid0.coords t 1).val * 512 + n.val < 17024), x (ix2 r n) = Spec.y (aX m c) (aI m c) (aO m c) (aW m c) (aS m c) (Spec.rowOf (t.val / 34) r) ⟨(grid0.coords t 1).val * 512 + n.val, hn⟩
  P7 c i x := ∀ (r : Fin 1024) (d : Fin 3584), x (ix2 r d) = Spec.code (aX m c) (aI m c) (Spec.rowOf i r) d
  P8 c i x := ∀ (r : Fin 1024) (b : Fin 28), x (ix2 r b) = Spec.scale (aX m c) (aI m c) (Spec.rowOf i r) b

/-- The columns of a point's tile. -/
theorem held4_col (c : Dev nD) (t : Fin cfg0.N) (d : Vec Ideal S128x512 .bf16) (k : Fin 128) (n : Fin 512) (hn : (grid0.coords t 1).val * 512 + n.val < 17024) :
    held4 m c t d (ix2 k n) = aO m c k ⟨(grid0.coords t 1).val * 512 + n.val, hn⟩ :=
  (in4 m c t d k n (by rw [← coord1]; exact hn)).trans (congrArg (aO m c k) (Fin.ext (by show t.val % 34 * 512 + n.val = _; rw [← coord1])))
theorem held5_col (c : Dev nD) (t : Fin cfg0.N) (d : Vec Ideal S3584x512 .fp8e4m3) (k : Fin 3584) (n : Fin 512) (hn : (grid0.coords t 1).val * 512 + n.val < 17024) :
    held5 m c t d (ix2 k n) = aW m c k ⟨(grid0.coords t 1).val * 512 + n.val, hn⟩ :=
  (in5 m c t d k n (by rw [← coord1]; exact hn)).trans (congrArg (aW m c k) (Fin.ext (by show t.val % 34 * 512 + n.val = _; rw [← coord1])))

variable (hlt : ∀ c k, (aI m c k).toNat < 3584) (hinj : ∀ c k l, aI m c k = aI m c l → k = l)
include hlt hinj

theorem holdsA (hH : Hyps m) : HoldsA m hH (claims m) := fun c t hc d4 d5 =>
  ⟨fun f r n hn => leavesA_6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)
      (aI m c) (aX m c) (Spec.rowOf (t.val / 34)) (aO m c) (aW m c) (aS m c) (fun k => iblk0 m c t _) (hlt c) (hinj c) (fun b q => in1 m c t b q) n hn (fun k => held4_col m c t d4 k n hn) (fun k => held5_col m c t d5 k n hn)
      (in2 m c t) (in3 m c t) (ms6 t).view f r,
    fun f r d => leaves_7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)
      (aI m c) (aX m c) (Spec.rowOf (t.val / 34)) (in2 m c t) (in3 m c t) (ms7 t).view f r d,
    fun f r b => leaves_8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)
      (aI m c) (aX m c) (Spec.rowOf (t.val / 34)) (in2 m c t) (in3 m c t) (ms8 t).view f r b,
    fun f r d => leaves_S c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) (hH c t)
      (aI m c) (aX m c) (Spec.rowOf (t.val / 34)) (in2 m c t) (in3 m c t) sc0.view f r d⟩

theorem holdsB (hH : Hyps m) : HoldsB m hH (claims m) := fun c t hc d4 d5 xs hs f r n hn =>
  leavesB_6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hsc0 sc1 hsc1 sc2 hsc2 hc (iblk m c 0 t) (iblk m c 1 t) (iblk m c 2 t) (iblk m c 3 t) (held4 m c t d4) (held5 m c t d5) xs (hH c t)
    (aI m c) (aX m c) (Spec.rowOf (t.val / 34)) (aO m c) (aW m c) (aS m c) (fun k => iblk0 m c t _) (hlt c) (hinj c) (fun b q => in1 m c t b q) n hn (fun k => held4_col m c t d4 k n hn) (fun k => held5_col m c t d5 k n hn)
    hs (ms6 t).view f r

end Cert.KernelIdeal.Run
-- ==== Proof.PI.Arrays.lean ====
/-
  The result arrays after the run, index by index, from what the body leaves at each grid point.
-/
module

public import proofs.«01_k».proof.Proof.PI.Holds
public import Idealize.ShloMosaic.Lib.Pipeline.ArrRel
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Pipeline (Dat RDat)

variable (m : (ℓ : Loc nD τ sig) → Buf (Elt Ideal) ℓ) (r : PUnit × MemSt nD τ sig (Elt Ideal))

theorem ix_6a : ∀ t : Fin cfg0.N, win0_6.index t 0 = t.val / 34 := (by decide +kernel : ∀ t : Fin grid0.N, _)
theorem ix_6b : ∀ t : Fin cfg0.N, win0_6.index t 1 = t.val % 34 := (by decide +kernel : ∀ t : Fin grid0.N, _)
theorem xs_6a : ∀ t : Fin cfg0.N, win0_6.xsize (grid0.coords t) 0 = 1024 := (by decide +kernel : ∀ t : Fin grid0.N, _)
theorem xs_6b : ∀ t : Fin cfg0.N, win0_6.xsize (grid0.coords t) 1 = min 512 (17024 - t.val % 34 * 512) := (by decide +kernel : ∀ t : Fin grid0.N, _)
theorem ix_7a : ∀ t : Fin cfg0.N, win0_7.index t 0 = t.val / 34 := (by decide +kernel : ∀ t : Fin grid0.N, _)
theorem ix_7b : ∀ t : Fin cfg0.N, win0_7.index t 1 = 0 := (by decide +kernel : ∀ t : Fin grid0.N, _)
theorem ix_8a : ∀ t : Fin cfg0.N, win0_8.index t 0 = t.val / 34 := (by decide +kernel : ∀ t : Fin grid0.N, _)
theorem ix_8b : ∀ t : Fin cfg0.N, win0_8.index t 1 = 0 := (by decide +kernel : ∀ t : Fin grid0.N, _)

variable (h : RDat.FramePost cfg0 (rdat m (claims m)) (V m) r) (c : Dev nD)
include h

/-- The result `y`. -/
theorem array6 (a : Fin 6144) (b : Fin 17024) : r.2.mem ((c.tc : Thread nD τ).loc main_v3_0) (ix2 a b) = Spec.y (aX m c) (aI m c) (aO m c) (aW m c) (aS m c) a b := by
  obtain ⟨after, hL, hA⟩ := RDat.FramePost.exists_exact h c
  refine (congrFun (hA 6) (ix2 a b)).trans ?_
  refine ((rdat m (claims m) c).withAfter after).arrAt_forall_of_covers 6 (fun i v => v = Spec.y (aX m c) (aI m c) (aO m c) (aW m c) (aS m c) (i 0) (i 1)) (by decide +kernel) (fun t hf y => ?_) (ix2 a b)
  obtain ⟨Y, _, hP⟩ := hL 6 t hf
  have ht : t.val < 204 := t.isLt
  have y0 : (y 0).val < 1024 := lt_of_lt_of_eq (y 0).isLt (xs_6a t)
  have y1 : (y 1).val < min 512 (17024 - t.val % 34 * 512) := lt_of_lt_of_eq (y 1).isLt (xs_6b t)
  have hn : (grid0.coords t 1).val * 512 + (y 1).val < 17024 := by rw [coord1]; omega
  have e : (cfg0.win 6).xinj (cfg0.grid.coords t) y = (ix2 ⟨(y 0).val, y0⟩ ⟨(y 1).val, by omega⟩ : S1024x512.Idx) := funext fun a => Fin.ext (by fin_cases a <;> rfl)
  refine (congrArg (after 6 t) e).trans ((hP ⟨(y 0).val, y0⟩ ⟨(y 1).val, by omega⟩ hn).trans ?_)
  refine congrArg₂ (Spec.y (aX m c) (aI m c) (aO m c) (aW m c) (aS m c)) (Fin.ext ?_) (Fin.ext ?_)
  · show (t.val / 34 * 1024 + (y 0).val) % 6144 = win0_6.index t 0 * 1024 + 1 * (y 0).val; rw [ix_6a]; omega
  · show (grid0.coords t 1).val * 512 + (y 1).val = win0_6.index t 1 * 512 + 1 * (y 1).val; rw [coord1, ix_6b]; omega

/-- The codes. -/
theorem array7 (a : Fin 6144) (b : Fin 3584) : r.2.mem ((c.tc : Thread nD τ).loc main_v3_1) (ix2 a b) = Spec.code (aX m c) (aI m c) a b := by
  obtain ⟨after, hL, hA⟩ := RDat.FramePost.exists_exact h c
  refine (congrFun (hA 7) (ix2 a b)).trans ?_
  refine ((rdat m (claims m) c).withAfter after).arrAt_forall_of_covers 7 (fun i v => v = Spec.code (aX m c) (aI m c) (i 0) (i 1)) (by decide +kernel) (fun t hf y => ?_) (ix2 a b)
  obtain ⟨Y, _, hP⟩ := hL 7 t hf
  have ht : t.val < 204 := t.isLt
  have y0 : (y 0).val < 1024 := (y 0).isLt
  have y1 : (y 1).val < 3584 := (y 1).isLt
  have e : (cfg0.win 7).xinj (cfg0.grid.coords t) y = (ix2 ⟨(y 0).val, y0⟩ ⟨(y 1).val, y1⟩ : S1024x3584.Idx) := funext fun a => Fin.ext (by fin_cases a <;> rfl)
  refine (congrArg (after 7 t) e).trans ((hP ⟨(y 0).val, y0⟩ ⟨(y 1).val, y1⟩).trans ?_)
  refine congrArg₂ (Spec.code (aX m c) (aI m c)) (Fin.ext ?_) (Fin.ext ?_)
  · show (t.val / 34 * 1024 + (y 0).val) % 6144 = win0_7.index t 0 * 1024 + 1 * (y 0).val; rw [ix_7a]; omega
  · show (y 1).val = win0_7.index t 1 * 3584 + 1 * (y 1).val; rw [ix_7b]; omega

/-- The scales. -/
theorem array8 (a : Fin 6144) (b : Fin 28) : r.2.mem ((c.tc : Thread nD τ).loc main_v3_2) (ix2 a b) = Spec.scale (aX m c) (aI m c) a b := by
  obtain ⟨after, hL, hA⟩ := RDat.FramePost.exists_exact h c
  refine (congrFun (hA 8) (ix2 a b)).trans ?_
  refine ((rdat m (claims m) c).withAfter after).arrAt_forall_of_covers 8 (fun i v => v = Spec.scale (aX m c) (aI m c) (i 0) (i 1)) (by decide +kernel) (fun t hf y => ?_) (ix2 a b)
  obtain ⟨Y, _, hP⟩ := hL 8 t hf
  have ht : t.val < 204 := t.isLt
  have y0 : (y 0).val < 1024 := (y 0).isLt
  have y1 : (y 1).val < 28 := (y 1).isLt
  have e : (cfg0.win 8).xinj (cfg0.grid.coords t) y = (ix2 ⟨(y 0).val, y0⟩ ⟨(y 1).val, y1⟩ : S1024x28.Idx) := funext fun a => Fin.ext (by fin_cases a <;> rfl)
  refine (congrArg (after 8 t) e).trans ((hP ⟨(y 0).val, y0⟩ ⟨(y 1).val, y1⟩).trans ?_)
  refine congrArg₂ (Spec.scale (aX m c) (aI m c)) (Fin.ext ?_) (Fin.ext ?_)
  · show (t.val / 34 * 1024 + (y 0).val) % 6144 = win0_8.index t 0 * 1024 + 1 * (y 0).val; rw [ix_8a]; omega
  · show (y 1).val = win0_8.index t 1 * 28 + 1 * (y 1).val; rw [ix_8b]; omega

end Cert.KernelIdeal.Run
-- ==== Proof.Host.lean ====
/-
  What the reference's host operations leave in the arrays that its kernel reads, each as one expression over the launch arrays.
-/
module

public import proofs.«01_k».proof.Proof.Gen.ReferenceIdeal.Value
public import Idealize.ShloMosaic.Lib.StableHlo.ReadAt
public import Idealize.ShloMosaic.Lib.Pointwise

@[expose] public section

set_option maxRecDepth 16384

noncomputable section

namespace Cert.ReferenceIdeal.Read

open Cert.ReferenceIdeal Cert.ReferenceIdeal.Gen
open Idealize.ShloMosaic Idealize.ShloMosaic.TcCoe

section
variable {F : FTy → Type} [FloatOps F]

/-- The activations as a matrix. -/
def hostX (x : FVec F S6x1024x3584 .bf16) : FVec F S6144x3584 .bf16 := shapeCast S6144x3584 x shapeCasts_S6x1024x3584_S6144x3584
/-- The channel list as a column, a negative entry counted from the end. -/
def hostIds (i : IVec S128 32) : IVec S128x1 32 :=
  broadcastInDim S128x1 ![0] bcast_S128_S128x1_0
    (select (cmpi .slt i (broadcastInDim S128 ![] bcast_S_S128 (constantI S_ 32 0#32)))
      (addi i (broadcastInDim S128 ![] bcast_S_S128 (constantI S_ 32 3584#32))) i)
/-- The activations of the listed channels. -/
def hostXo (x : FVec F S6x1024x3584 .bf16) (i : IVec S128 32) : FVec F S6144x128 .bf16 :=
  Host.gather gather_S6144x3584_S128x1_S6144x128_0_1_n_n_1_1_61441 (hostX x) (hostIds i)
/-- The activations with the listed channels set to zero. -/
def hostKeep (x : FVec F S6x1024x3584 .bf16) (i : IVec S128 32) : FVec F S6144x3584 .bf16 :=
  Host.scatter scatter_S6144x3584_S128x1_S6144x128_0_1_1_1 (fun _ b => b) (hostX x) (hostIds i)
    (broadcastInDim S6144x128 ![] bcast_S_S6144x128 (constant S_ .bf16 0x0000#16))
/-- A matrix widened and cut into blocks of 128 columns. -/
def hostBlk (k : FVec F S6144x3584 .bf16) : FVec F S6144x28x128 .f32 :=
  shapeCast S6144x28x128 (extf .f32 k bitsLt_bf16_f32) shapeCasts_S6144x3584_S6144x28x128
/-- The largest magnitude of each block, times the float that the reference takes for 1/448. -/
def hostTop (b : FVec F S6144x28x128 .f32) : FVec F S6144x28 .f32 :=
  mulf (Host.reduce FloatOps.maximumf (Host.absf b) (constant S_ .f32 0xFF800000#32) reducesTo_S6144x28x128_S6144x28_d2 h_S_)
    (broadcastInDim S6144x28 ![] bcast_S_S6144x28 (constant S_ .f32 0x3B124925#32))
/-- The exponent of each block's scale. -/
def hostExp (t : FVec F S6144x28 .f32) : FVec F S6144x28 .f32 :=
  select (cmpf .olt t (broadcastInDim S6144x28 ![] bcast_S_S6144x28 (constant S_ .f32 0x00800000#32)))
    (broadcastInDim S6144x28 ![] bcast_S_S6144x28 (id (constant S_ .f32 0x00000000#32)))
    (addf (Host.floor (Host.divf (Host.log t) (broadcastInDim S6144x28 ![] bcast_S_S6144x28 (Host.log (constant S_ .f32 0x40000000#32)))))
      (broadcastInDim S6144x28 ![] bcast_S_S6144x28 (constant S_ .f32 0x3F800000#32)))
/-- Two to a given power. -/
def hostPow (e : FVec F S6144x28 .f32) : FVec F S6144x28 .f32 :=
  Host.powf (broadcastInDim S6144x28 ![] bcast_S_S6144x28 (constant S_ .f32 0x40000000#32)) e

variable (m : (ℓ : Loc nD τ sig) → Buf (Elt F) ℓ) (c : Dev nD)

/-- The gathered activations, as the kernel finds them. -/
theorem V_xo : V m c main_v7 = hostXo (m ((c : Thread nD τ).loc main_arg0)) (m ((c : Thread nD τ).loc main_arg1)) := by
  unfold V; after_reads_simp; rfl
/-- The blocks of activations, as the kernel finds them. -/
theorem V_blk : V m c main_v17 = hostBlk (hostKeep (m ((c : Thread nD τ).loc main_arg0)) (m ((c : Thread nD τ).loc main_arg1))) := by
  unfold V; after_reads_simp; rfl
/-- The scales, as the kernel finds them. -/
theorem V_scale : V m c main_v33 = hostPow (hostExp (hostTop (hostBlk (hostKeep (m ((c : Thread nD τ).loc main_arg0)) (m ((c : Thread nD τ).loc main_arg1)))))) := by
  unfold V; after_reads_simp; rfl
/-- The inverse scales, as the kernel finds them. -/
theorem V_inv : V m c main_v36
    = hostPow (Host.negf (hostExp (hostTop (hostBlk (hostKeep (m ((c : Thread nD τ).loc main_arg0)) (m ((c : Thread nD τ).loc main_arg1))))))) := by
  unfold V; after_reads_simp; rfl
end

/-- The blocks at an index: column `128 * b + l` of the matrix. -/
theorem hostBlk_at (k : FVec Ideal S6144x3584 .bf16) (r : Fin 6144) (b : Fin 28) (l : Fin 128) :
    hostBlk k (ix3 r b l) = k (ix2 r ⟨b.val * 128 + l.val, by omega⟩) := by
  pointwise [hostBlk]

/-- The largest magnitude along the last of three axes, times a constant, at an index: stated at any extents. -/
theorem top_at {n0 n1 n2 : ℕ} (x : FVec Ideal ⟨3, ![n0, n1, n2]⟩ .f32) (h : (⟨3, ![n0, n1, n2]⟩ : Shape).ReducesTo [2] ⟨2, ![n0, n1]⟩)
    (hu : 0 < S_.numel) (hb : S_.BroadcastsInDim ⟨2, ![n0, n1]⟩ ![]) (r : Fin n0) (q : Fin n1) :
    mulf (Host.reduce FloatOps.maximumf (Host.absf x) (constant S_ .f32 0xFF800000#32) h hu) (broadcastInDim ⟨2, ![n0, n1]⟩ ![] hb (constant S_ .f32 0x3B124925#32)) (ix2 r q)
      = Finset.fold max (Ideal.ofBits .f32 4286578688#32) (fun l : Fin n2 => FloatOps.absf (x (ix3 r q l))) Finset.univ * Ideal.ofBits .f32 991054117#32 := by
  pointwise

/-- The scaled largest magnitude at an index. -/
theorem hostTop_at (b : FVec Ideal S6144x28x128 .f32) (r : Fin 6144) (q : Fin 28) :
    hostTop b (ix2 r q) = Finset.fold max (Ideal.ofBits .f32 4286578688#32) (fun l => FloatOps.absf (b (ix3 r q l))) Finset.univ * Ideal.ofBits .f32 991054117#32 :=
  top_at b reducesTo_S6144x28x128_S6144x28_d2 h_S_ bcast_S_S6144x28 r q

/-- The exponent at an index. -/
theorem hostExp_at (t : FVec Ideal S6144x28 .f32) (r : Fin 6144) (q : Fin 28) :
    hostExp t (ix2 r q) = if t (ix2 r q) < Ideal.ofBits .f32 8388608#32 then (0 : EReal)
      else Ideal.liftRound Int.floor (Ideal.div (Ideal.log (t (ix2 r q))) (Ideal.log (Ideal.ofBits .f32 1073741824#32))) + 1 := by
  have hz : id (constant (F := Ideal) S_ FTy.f32 0#32) ix0 = (0 : EReal) := Ideal.ofBits_zero_f32
  pointwise [hostExp]
  rw [hz]

/-- A power at an index. -/
theorem hostPow_at (e : FVec Ideal S6144x28 .f32) (r : Fin 6144) (q : Fin 28) :
    hostPow e (ix2 r q) = Ideal.pow (Ideal.ofBits .f32 1073741824#32) (e (ix2 r q)) := by
  pointwise [hostPow]
theorem hostNeg_at (e : FVec Ideal S6144x28 .f32) (r : Fin 6144) (q : Fin 28) :
    Host.negf e (ix2 r q) = - (e (ix2 r q) : EReal) := by
  pointwise
theorem hostIds_at (i : IVec S128 32) (k : Fin 128) :
    hostIds i (ix2 k 0) = Scalar.select (IntOp.cmpi .slt (i (ix1 k)) 0#32) (IntOp.addi (i (ix1 k)) 3584#32) (i (ix1 k)) := by
  pointwise [hostIds]
theorem hostX_at (x : FVec Ideal S6x1024x3584 .bf16) (r : Fin 6144) (d : Fin 3584) :
    hostX x (ix2 r d) = x (ix3 ⟨r.val / 1024, by omega⟩ ⟨r.val % 1024, by omega⟩ d) := by
  pointwise [hostX]

end Cert.ReferenceIdeal.Read
-- ==== Proof.Columns.lean ====
/-
  Two host operations along the COLUMNS of a matrix, read at an index: the gather `x[:, idx]` and the scatter `x.at[:, idx].set(u)`,
  at any extents. Nothing here names a program.
-/
module

public import Idealize.ShloMosaic.Lib.Routing.OpsSet
public import Idealize.ShloMosaic.Lib.Routing.OpsOne

@[expose] public section

namespace Cert.Columns

open Idealize.ShloMosaic Idealize.ShloMosaic.ValueIdx Idealize.ShloMosaic.Routing

variable {α : Type} {R C n : Nat}

/-- Update `(r', k)` of `x.at[:, idx].set(u)` lands at `(r, e)` exactly when `r'` is `r` and index word `k`, read signed, is `e`. -/
theorem lands_columns (d : ScatterDims (shape2 R C) (shape2 n 1) (shape2 R n)) (huw : d.updateWindowDims = [0]) (hiw : d.insertedWindowDims = [1])
    (hsd : d.scatterDimsToOperandDims = [1]) (hivd : d.indexVectorDim = 1) (idx : IVec (shape2 n 1) 32) (r' r : Fin R) (k : Fin n) (e : Fin C) :
    d.resultIdx? (ix2 r' k) idx = some (ix2 r e) ↔ r' = r ∧ (idx (ix2 k (0 : Fin 1))).toInt = e.val := by
  have hm : (1 : Fin 2) ∈ d.scatterDimsToOperandDims := by rw [hsd]; exact List.mem_singleton.2 rfl
  have hkept : d.sKept = [0] := by
    show (shape2 R C).kept d.insertedWindowDims = _
    rw [hiw]
    rfl
  have hus : ∀ X ∈ d.uScatter, X = (1 : Fin 2) := fun X hX => by
    have hX' : X ∉ d.updateWindowDims := of_decide_eq_true (List.mem_filter.1 hX).2
    rw [huw] at hX'
    have h1 : X.val ≠ 0 := fun q => hX' (List.mem_singleton.2 (Fin.ext q))
    have h2 : X.val < 2 := X.isLt
    exact Fin.ext (by show X.val = 1; omega)
  have hwd : ∀ X ∈ d.updateWindowDims, X = (0 : Fin 2) := fun X hX => by rw [huw] at hX; exact List.mem_singleton.1 hX
  have e0 : ∀ X : Fin 2, X = 0 → (ix2 r' k X).val = r'.val := fun X h => by subst h; rfl
  have e1 : ∀ X : Fin 2, X = 1 → (ix2 r' k X).val = k.val := fun X h => by subst h; rfl
  have hwin1 : d.window (ix2 r' k) 1 = 0 := by
    unfold ScatterDims.window
    rw [dif_neg fun h => (of_decide_eq_true (List.mem_filter.1 h).2) (by rw [hiw]; exact List.mem_singleton.2 rfl)]
  have hwin0 : d.window (ix2 r' k) 0 = r'.val := by
    unfold ScatterDims.window
    rw [dif_pos (by rw [hkept]; exact List.mem_singleton.2 rfl)]
    exact e0 _ (hwd _ (List.getElem_mem _))
  have hstart0 : d.start (ix2 r' k) idx 0 = 0 := by
    unfold ScatterDims.start
    rw [dif_neg fun h => by rw [hsd] at h; exact absurd (List.mem_singleton.1 h) (by decide : (0 : Fin 2) ≠ 1)]
  have hstart1 : d.start (ix2 r' k) idx 1 = (idx (ix2 k (0 : Fin 1))).toInt := by
    unfold ScatterDims.start
    rw [dif_pos hm]
    have hsi : d.siIdx (ix2 r' k) ⟨d.scatterDimsToOperandDims.idxOf 1, List.idxOf_lt_length_iff.2 hm⟩ = ix2 k (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e1 _ (hus _ (List.getElem_mem _))
      | ⟨1, _⟩ =>
        unfold ScatterDims.siIdx
        rw [dif_pos (by rw [hivd])]
        show List.idxOf (1 : Fin 2) d.scatterDimsToOperandDims = 0
        rw [hsd]; simp
    rw [hsi]
  rw [Fin.ext_iff, resultIdx?_ix2, hstart0, hwin0, hstart1, hwin1]
  omega

/-- `x.at[:, idx].set(v)` for one scalar `v`, read at `(r, e)`: `v` where some index word, read signed, is `e`, and the operand elsewhere. -/
theorem scatter_columns (d : ScatterDims (shape2 R C) (shape2 n 1) (shape2 R n)) (huw : d.updateWindowDims = [0]) (hiw : d.insertedWindowDims = [1])
    (hsd : d.scatterDimsToOperandDims = [1]) (hivd : d.indexVectorDim = 1) (x0 : (shape2 R C).Idx → α) (idx : IVec (shape2 n 1) 32)
    (upd : (shape2 R n).Idx → α) (v : α) (hv : ∀ j, upd j = v) (r : Fin R) (e : Fin C) [Decidable (∃ k : Fin n, (idx (ix2 k (0 : Fin 1))).toInt = e.val)] :
    Host.scatter d (fun _ b => b) x0 idx upd (ix2 r e) = if ∃ k : Fin n, (idx (ix2 k (0 : Fin 1))).toInt = e.val then v else x0 (ix2 r e) := by
  by_cases h : ∃ k : Fin n, (idx (ix2 k (0 : Fin 1))).toInt = e.val
  · rw [if_pos h]
    obtain ⟨k, hk⟩ := h
    exact scatter_set_hit d x0 idx upd _ _ (fun j _ => hv j) (ix2 r k) ((lands_columns d huw hiw hsd hivd idx r r k e).2 ⟨rfl, hk⟩)
  · rw [if_neg h]
    exact scatter_set_miss d x0 idx upd _ fun j hj => h ⟨j 1, ((lands_columns d huw hiw hsd hivd idx (j 0) r (j 1) e).1
      ((congrArg (fun t => d.resultIdx? t idx) (eq_ix2 j).symm).trans hj)).2⟩

/-- `x[:, idx]`, read at `(r, k)`, where index word `k` holds the column number `e`: the operand at `(r, e)`. -/
theorem gather_columns (d : GatherDims (shape2 R C) (shape2 n 1) (shape2 R n)) (hoff : d.offsetDims = [0])
    (hcoll : d.collapsedSliceDims = [1]) (hob : d.operandBatchingDims = [])
    (hsim : d.startIndexMap = [1]) (hivd : d.indexVectorDim = 1) (x : (shape2 R C).Idx → α) (idx : IVec (shape2 n 1) 32)
    (r : Fin R) (k : Fin n) (e : Fin C) (he : (idx (ix2 k (0 : Fin 1))).toInt = e.val) :
    Host.gather d x idx (ix2 r k) = x (ix2 r e) := by
  unfold Host.gather
  refine congrArg x (funext fun a => Fin.ext ?_)
  have hbN : ∀ a', a' ∉ d.operandBatchingDims := fun a' => by rw [hob]; exact List.not_mem_nil
  have hk1 : ∀ X ∈ d.batchDims, X = (1 : Fin 2) := fun X hX => by
    have hX' : X ∉ d.offsetDims := of_decide_eq_true (List.mem_filter.1 hX).2
    rw [hoff] at hX'
    have h1 : X.val ≠ 0 := fun q => hX' (List.mem_singleton.2 (Fin.ext q))
    have h2 : X.val < 2 := X.isLt
    exact Fin.ext (by show X.val = 1; omega)
  have hk0 : ∀ X ∈ d.offsetDims, X = (0 : Fin 2) := fun X hX => by rw [hoff] at hX; exact List.mem_singleton.1 hX
  have e0 : ∀ X : Fin 2, X = 0 → (ix2 r k X).val = r.val := fun X h => by subst h; rfl
  have e1 : ∀ X : Fin 2, X = 1 → (ix2 r k X).val = k.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 r k) idx 1 + d.batchCoord (ix2 r k) 1 + d.offCoord (ix2 r k) 1 = e.val
    rw [d.batchCoord_eq_zero _ _ (hbN 1), d.offCoord_eq_zero _ _ hk]
    simp only [Nat.add_zero]
    unfold GatherDims.start
    rw [dif_pos hm]
    have hsi : d.siIdx (ix2 r k) ⟨d.startIndexMap.idxOf 1, List.idxOf_lt_length_iff.2 hm⟩ = ix2 k (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hel := e.isLt
    rw [hsi, he, hsl]
    show min ((e.val : Int)).toNat (C - 1) = e.val
    omega
  | ⟨0, _⟩ =>
    have hk : (0 : Fin 2) ∈ d.sKept := (d.mem_sKept 0).2 ⟨by rw [hcoll]; exact fun h => absurd (List.mem_singleton.1 h) (by decide : (0 : Fin 2) ≠ 1), hbN 0⟩
    have hm : (0 : Fin 2) ∉ d.startIndexMap := by rw [hsim]; exact fun h => absurd (List.mem_singleton.1 h) (by decide : (0 : Fin 2) ≠ 1)
    show d.start (ix2 r k) idx 0 + d.batchCoord (ix2 r k) 0 + d.offCoord (ix2 r k) 0 = r.val
    rw [d.batchCoord_eq_zero _ _ (hbN 0), Nat.add_zero]
    unfold GatherDims.start GatherDims.offCoord
    rw [dif_neg hm, dif_pos hk, Nat.zero_add]
    exact e0 _ (hk0 _ (List.getElem_mem _))

end Cert.Columns
-- ==== Proof.RefValue.lean ====
/-
  The reference's three result arrays, index by index, as the functions of `Cert.Spec`.
-/
module

public import proofs.«01_k».proof.Proof.Host
public import proofs.«01_k».proof.Proof.Columns
public import proofs.«01_k».proof.Proof.Spec
public import Idealize.ShloMosaic.Lib.Pipeline.ValueKit

@[expose] public section

set_option maxRecDepth 16384

noncomputable section

namespace Cert.ReferenceIdeal.Read

open Cert.ReferenceIdeal Cert.ReferenceIdeal.Gen
open Idealize.ShloMosaic Idealize.ShloMosaic.TcCoe
open Idealize.ShloMosaic.Pipeline (Dat)

section
variable {F : FTy → Type} [FloatOps F]
variable (m : (ℓ : Loc nD τ sig) → Buf (Elt F) ℓ) (c : Dev nD)

/-- The kernel's one block of each operand is the whole of it. -/
theorem iblk0 (t : Fin cfg0.N) : iblk m c 0 t = V m c main_v17 := by
  unfold iblk
  refine funext fun y => congrArg (V m c main_v17) (funext fun a => Fin.ext ?_)
  fin_cases a
  · show 0 * 6144 + 1 * (y 0).val = (y 0).val
    omega
  · show 0 * 28 + 1 * (y 1).val = (y 1).val
    omega
  · show 0 * 128 + 1 * (y 2).val = (y 2).val
    omega
theorem iblk1 (t : Fin cfg0.N) : iblk m c 1 t = V m c main_v36 := by
  unfold iblk
  refine funext fun y => congrArg (V m c main_v36) (funext fun a => Fin.ext ?_)
  fin_cases a
  · show 0 * 6144 + 1 * (y 0).val = (y 0).val
    omega
  · show 0 * 28 + 1 * (y 1).val = (y 1).val
    omega
theorem iblk2 (t : Fin cfg0.N) : iblk m c 2 t = V m c main_v33 := by
  unfold iblk
  refine funext fun y => congrArg (V m c main_v33) (funext fun a => Fin.ext ?_)
  fin_cases a
  · show 0 * 6144 + 1 * (y 0).val = (y 0).val
    omega
  · show 0 * 28 + 1 * (y 1).val = (y 1).val
    omega
theorem iblk3 (t : Fin cfg0.N) : iblk m c 3 t = V m c main_v7 := by
  unfold iblk
  refine funext fun y => congrArg (V m c main_v7) (funext fun a => Fin.ext ?_)
  fin_cases a
  · show 0 * 6144 + 1 * (y 0).val = (y 0).val
    omega
  · show 0 * 128 + 1 * (y 1).val = (y 1).val
    omega
theorem iblk4 (t : Fin cfg0.N) : iblk m c 4 t = m ((c : Thread nD τ).loc main_arg2) := by
  unfold iblk
  rw [show V m c (Pipeline.arrRef spec0 4) = _ from V_main_arg2 m c]
  refine funext fun y => congrArg (m ((c : Thread nD τ).loc main_arg2)) (funext fun a => Fin.ext ?_)
  fin_cases a
  · show 0 * 128 + 1 * (y 0).val = (y 0).val
    omega
  · show 0 * 17024 + 1 * (y 1).val = (y 1).val
    omega
theorem iblk5 (t : Fin cfg0.N) : iblk m c 5 t = m ((c : Thread nD τ).loc main_arg3) := by
  unfold iblk
  rw [show V m c (Pipeline.arrRef spec0 5) = _ from V_main_arg3 m c]
  refine funext fun y => congrArg (m ((c : Thread nD τ).loc main_arg3)) (funext fun a => Fin.ext ?_)
  fin_cases a
  · show 0 * 3584 + 1 * (y 0).val = (y 0).val
    omega
  · show 0 * 17024 + 1 * (y 1).val = (y 1).val
    omega
theorem iblk6 (t : Fin cfg0.N) : iblk m c 6 t = m ((c : Thread nD τ).loc main_arg4) := by
  unfold iblk
  rw [show V m c (Pipeline.arrRef spec0 6) = _ from V_main_arg4 m c]
  refine funext fun y => congrArg (m ((c : Thread nD τ).loc main_arg4)) (funext fun a => Fin.ext ?_)
  fin_cases a
  · show 0 * 28 + 1 * (y 0).val = (y 0).val
    omega
  · show 0 * 133 + 1 * (y 1).val = (y 1).val
    omega

/-- What the one grid point leaves in each result's buffer. -/
theorem res7 (t : Fin cfg0.N) : (dats m 0 c).after 7 t
    = k0_pay1 (k0_pay5 (V m c main_v17) (V m c main_v36) (V m c main_v33) (m ((c : Thread nD τ).loc main_arg3)) (m ((c : Thread nD τ).loc main_arg4)))
        (V m c main_v7) (m ((c : Thread nD τ).loc main_arg2)) := by
  rw [after0_7, iblk0, iblk1, iblk2, iblk3, iblk4, iblk5, iblk6]
  unfold out0_7
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide), View.ld_unit_lit _ _ (by decide)]
theorem res8 (t : Fin cfg0.N) : (dats m 0 c).after 8 t = k0_pay3 (V m c main_v17) (V m c main_v36) := by
  rw [after0_8, iblk0, iblk1]
  unfold out0_8
  rw [View.canon_cons_unit_lit _ _ _ (by decide), View.ld_unit_lit _ _ (by decide), View.ld_unit_lit _ _ (by decide)]
theorem res9 (t : Fin cfg0.N) : (dats m 0 c).after 9 t = k0_pay4 (V m c main_v33) := by
  rw [after0_9, iblk2]
  unfold out0_9
  rw [View.canon_cons_unit_lit _ _ _ (by decide), View.ld_unit_lit _ _ (by decide)]

/-- The result arrays are what the one grid point leaves. -/
theorem arr7 : (dats m 0 c).arrAt 7 cfg0.N = (dats m 0 c).after 7 t0_0 := by
  funext i; refine ((dats m 0 c).arrAt_emb_eq_after_last 7 t0_0 (by decide +kernel) i).trans ?_; blk_simp
theorem arr8 : (dats m 0 c).arrAt 8 cfg0.N = (dats m 0 c).after 8 t0_0 := by
  funext i; refine ((dats m 0 c).arrAt_emb_eq_after_last 8 t0_0 (by decide +kernel) i).trans ?_; blk_simp
theorem arr9 : (dats m 0 c).arrAt 9 cfg0.N = (dats m 0 c).after 9 t0_0 := by
  funext i; refine ((dats m 0 c).arrAt_emb_eq_after_last 9 t0_0 (by decide +kernel) i).trans ?_; blk_simp
end

end Cert.ReferenceIdeal.Read
-- ==== Proof.RefRead.lean ====
/-
  The reference's results at an index, over the launch arrays.
-/
module

public import proofs.«01_k».proof.Proof.RefValue

@[expose] public section

set_option maxRecDepth 16384

noncomputable section

namespace Cert.ReferenceIdeal.Read

open Cert.ReferenceIdeal Cert.ReferenceIdeal.Gen
open Idealize.ShloMosaic Idealize.ShloMosaic.TcCoe
open Cert.Spec (act ids mat)

section
variable (a0 : FVec Ideal S6x1024x3584 .bf16) (a1 : IVec S128 32)

/-- A channel below 3584 is read as itself. -/
theorem hostIds_toInt (k : Fin 128) (h : (ids a1 k).toNat < 3584) : (hostIds a1 (ix2 k 0)).toInt = (ids a1 k).toNat := by
  rw [hostIds_at]
  have e : (a1 (ix1 k)).toInt = ((a1 (ix1 k)).toNat : ℤ) := by
    have h' : (a1 (ix1 k)).toNat < 3584 := h
    rw [BitVec.toInt_eq_toNat_cond, if_pos (by omega)]
  have hs : IntOp.cmpi .slt (a1 (ix1 k)) 0#32 = 0#1 := by
    show BitVec.ofBool (BitVec.slt _ _) = _
    have : BitVec.slt (a1 (ix1 k)) 0#32 = false := by
      rw [BitVec.slt, e]; simp
    rw [this]; rfl
  rw [hs]
  exact e

/-- The activations with the listed channels cleared, at an index. -/
theorem hostKeep_at (hlt : ∀ k, (ids a1 k).toNat < 3584) (r : Fin 6144) (d : Fin 3584) :
    hostKeep a0 a1 (ix2 r d) = Spec.keep (act a0) (ids a1) r d := by
  classical
  have hz : ∀ j, broadcastInDim S6144x128 ![] bcast_S_S6144x128 (constant (F := Ideal) S_ .bf16 0x0000#16) j = (0 : EReal) := fun j => by
    show Ideal.ofBits .bf16 0x0000#16 = 0
    simp [Ideal.ofBits, Ideal.ieee]
  have e := Columns.scatter_columns (R := 6144) (C := 3584) (n := 128) scatter_S6144x3584_S128x1_S6144x128_0_1_1_1 rfl rfl rfl rfl (hostX a0) (hostIds a1)
    (broadcastInDim S6144x128 ![] bcast_S_S6144x128 (constant (F := Ideal) S_ .bf16 0x0000#16)) (0 : EReal) hz r d
  have hc : (∃ k : Fin 128, (hostIds a1 (ix2 k 0)).toInt = d.val) ↔ Spec.Hit (ids a1) d.val := by
    constructor
    · rintro ⟨k, hk⟩
      rw [hostIds_toInt a1 k (hlt k)] at hk
      exact ⟨k, by exact_mod_cast hk⟩
    · rintro ⟨k, hk⟩
      exact ⟨k, by rw [hostIds_toInt a1 k (hlt k), hk]⟩
  refine (show hostKeep a0 a1 (ix2 r d) = _ from e).trans ?_
  unfold Spec.keep
  by_cases h : Spec.Hit (ids a1) d.val
  · rw [if_pos h]
    exact if_pos (hc.2 h)
  · rw [if_neg h]
    exact (if_neg (fun h' => h (hc.1 h'))).trans (hostX_at a0 r d)

/-- The listed channels' activations, at an index. -/
theorem hostXo_at (hlt : ∀ k, (ids a1 k).toNat < 3584) (r : Fin 6144) (k : Fin 128) :
    hostXo a0 a1 (ix2 r k) = act a0 r ⟨(ids a1 k).toNat, hlt k⟩ := by
  have e := Columns.gather_columns (R := 6144) (C := 3584) (n := 128) gather_S6144x3584_S128x1_S6144x128_0_1_n_n_1_1_61441 rfl rfl rfl rfl rfl (hostX a0) (hostIds a1)
    r k ⟨(ids a1 k).toNat, hlt k⟩ (hostIds_toInt a1 k (hlt k))
  exact (show hostXo a0 a1 (ix2 r k) = _ from e).trans (hostX_at a0 r _)

/-- The scaled largest magnitude of a block. -/
theorem hostTop_keep (hlt : ∀ k, (ids a1 k).toNat < 3584) (r : Fin 6144) (b : Fin 28) :
    hostTop (hostBlk (hostKeep a0 a1)) (ix2 r b) = Spec.top (act a0) (ids a1) r b := by
  rw [hostTop_at]
  unfold Spec.top
  simp only [hostBlk_at, hostKeep_at a0 a1 hlt]

variable (hlt : ∀ k, (ids a1 k).toNat < 3584)
  (hfin : ∀ r d, FloatOps.absf (F := Ideal) (φ := .f32) (act a0 r d) ≤ Ideal.ofBits .bf16 0x7F7F#16)
include hlt hfin

theorem hostScale_at (r : Fin 6144) (b : Fin 28) :
    hostPow (hostExp (hostTop (hostBlk (hostKeep a0 a1)))) (ix2 r b) = Spec.scale (act a0) (ids a1) r b := by
  have hb := Spec.top_bounds hfin r b (id := ids a1)
  rw [hostPow_at, hostExp_at, hostTop_keep a0 a1 hlt]
  exact (Scale.scale_inv_eq _ hb.1 hb.2).1.symm
theorem hostInv_at (r : Fin 6144) (b : Fin 28) :
    hostPow (Host.negf (hostExp (hostTop (hostBlk (hostKeep a0 a1))))) (ix2 r b) = Scale.inv (Spec.top (act a0) (ids a1) r b) := by
  have hb := Spec.top_bounds hfin r b (id := ids a1)
  rw [hostPow_at, hostNeg_at, hostExp_at, hostTop_keep a0 a1 hlt]
  exact (Scale.scale_inv_eq _ hb.1 hb.2).2.symm
end

/-- The kernel's values at an index. -/
theorem pay3_at (x0 : Vec Ideal S6144x28x128 .f32) (x1 : Vec Ideal S6144x28 .f32) (r : Fin 6144) (d : Fin 3584) :
    k0_pay3 x0 x1 (ix2 r d) = min (Ideal.ofBits .f32 1138753536#32) (max (Ideal.ofBits .f32 3286237184#32)
      (x0 (ix3 r ⟨d.val / 128, by omega⟩ ⟨d.val % 128, by omega⟩) * x1 (ix2 r ⟨d.val / 128, by omega⟩))) := by
  pointwise [k0_pay3, k0_pay2]
theorem pay1_at (z : FVec Ideal S6144x17024 .f32) (x3 : Vec Ideal S6144x128 .bf16) (x4 : Vec Ideal S128x17024 .bf16) (r : Fin 6144) (n : Fin 17024) :
    k0_pay1 z x3 x4 (ix2 r n) = z (ix2 r n) + ∑ k, (x3 (ix2 r k) * x4 (ix2 k n) : EReal) := by
  pointwise [k0_pay1]
theorem pay5_at (x0 : Vec Ideal S6144x28x128 .f32) (x1 x2 : Vec Ideal S6144x28 .f32) (x5 : Vec Ideal S3584x17024 .fp8e4m3) (x6 : Vec Ideal S28x133 .f32) (r : Fin 6144) (n : Fin 17024) :
    k0_pay5 x0 x1 x2 x5 x6 (ix2 r n) = ∑ d, (min (Ideal.ofBits .f32 1138753536#32) (max (Ideal.ofBits .f32 3286237184#32)
      (x0 (ix3 r ⟨d.val / 128, by omega⟩ ⟨d.val % 128, by omega⟩) * x1 (ix2 r ⟨d.val / 128, by omega⟩)))
      * x2 (ix2 r ⟨d.val / 128, by omega⟩) * (x5 (ix2 d n) * x6 (ix2 ⟨d.val / 128, by omega⟩ ⟨n.val / 128, by omega⟩)) : EReal) := by
  pointwise [k0_pay5, k0_pay2]
theorem pay4_at (x2 : Vec Ideal S6144x28 .f32) (r : Fin 6144) (b : Fin 28) : k0_pay4 x2 (ix2 r b) = x2 (ix2 r b) := by
  pointwise [k0_pay4]

variable (m : (ℓ : Loc nD τ sig) → Buf (Elt Ideal) ℓ) (c : Dev nD)
variable (hlt : ∀ k, (ids (m ((c : Thread nD τ).loc main_arg1)) k).toNat < 3584)
  (hfin : ∀ r d, FloatOps.absf (F := Ideal) (φ := .f32) (act (m ((c : Thread nD τ).loc main_arg0)) r d) ≤ Ideal.ofBits .bf16 0x7F7F#16)
include hlt hfin

/-- A block of activations, the listed channels cleared. -/
theorem blk_at (r : Fin 6144) (d : Fin 3584) : V m c main_v17 (ix3 r ⟨d.val / 128, by omega⟩ ⟨d.val % 128, by omega⟩)
    = Spec.keep (act (m ((c : Thread nD τ).loc main_arg0))) (ids (m ((c : Thread nD τ).loc main_arg1))) r d := by
  rw [V_blk, hostBlk_at, hostKeep_at _ _ hlt]
  exact congrArg _ (Fin.ext (by show d.val / 128 * 128 + d.val % 128 = d.val; omega))

/-- The scales. -/
theorem val9 (r : Fin 6144) (b : Fin 28) : (dats m 0 c).arrAt 9 cfg0.N (ix2 r b)
    = Spec.scale (act (m ((c : Thread nD τ).loc main_arg0))) (ids (m ((c : Thread nD τ).loc main_arg1))) r b := by
  rw [arr9, res9, V_scale]
  exact (pay4_at _ r b).trans (hostScale_at _ _ hlt hfin r b)

/-- The codes. -/
theorem val8 (r : Fin 6144) (d : Fin 3584) : (dats m 0 c).arrAt 8 cfg0.N (ix2 r d)
    = Spec.code (act (m ((c : Thread nD τ).loc main_arg0))) (ids (m ((c : Thread nD τ).loc main_arg1))) r d := by
  rw [arr8, res8]
  refine (pay3_at _ _ r d).trans ?_
  rw [blk_at m c hlt hfin r d, V_inv, hostInv_at _ _ hlt hfin]
  rfl

/-- The products. -/
theorem val7 (hinj : ∀ k l, ids (m ((c : Thread nD τ).loc main_arg1)) k = ids (m ((c : Thread nD τ).loc main_arg1)) l → k = l) (r : Fin 6144) (n : Fin 17024) :
    (dats m 0 c).arrAt 7 cfg0.N (ix2 r n)
      = Spec.y (act (m ((c : Thread nD τ).loc main_arg0))) (ids (m ((c : Thread nD τ).loc main_arg1))) (mat (m ((c : Thread nD τ).loc main_arg2)))
          (mat (m ((c : Thread nD τ).loc main_arg3))) (mat (m ((c : Thread nD τ).loc main_arg4))) r n := by
  rw [arr7, res7]
  refine (pay1_at _ _ _ r n).trans ?_
  rw [pay5_at, ← Spec.y_eq _ _ _ hlt hinj r n]
  refine congrArg₂ (fun a b : EReal => a + b) (Finset.sum_congr rfl fun d _ => ?_) (Finset.sum_congr rfl fun k _ => ?_)
  · rw [blk_at m c hlt hfin r d, V_inv, V_scale, hostInv_at _ _ hlt hfin, hostScale_at _ _ hlt hfin]
    rfl
  · rw [V_xo, hostXo_at _ _ hlt]
    rfl

end Cert.ReferenceIdeal.Read
-- ==== Proof.lean ====
module

public import proofs.«01_k».proof.Defs
public import proofs.«01_k».proof.Proof.P.Chk
public import proofs.«01_k».proof.Proof.PI.Arrays
public import proofs.«01_k».proof.Proof.RefRead
public import proofs.«01_k».proof.Proof.Gen.ReferenceIdeal.Frame
public import proofs.«01_k».proof.Proof.Gen.ReferenceIdeal.Value
public import proofs.«01_k».proof.Proof.Gen.Pre_channels_in_range
public import proofs.«01_k».proof.Proof.Gen.Pre_distinct_channels_finite_x

@[expose] public section

noncomputable section

namespace Cert.Proof

open Idealize.ShloMosaic Idealize.SL.Sem

/-- The kernel as written: it runs and leaves its arguments unchanged. -/
theorem frame_kernel : Cert.quiescent_Kernel := fun m ρ h =>
  Cert.Kernel.Run.frame m ρ (Cert.Kernel.Run.hyps_of m fun c k => Cert.Words.range_of_pre _ _ _ _ _ (h c) k)

/-- The kernel at the extended reals: the same. -/
theorem frame_ideal : Cert.quiescent_KernelIdeal := fun m ρ h =>
  Cert.KernelIdeal.Run.frame m ρ (Cert.KernelIdeal.Run.hyps_of m fun c k => Cert.Words.range_of_pre _ _ _ _ _ (h c) k)

/-- The kernel at the extended reals, under the second precondition: the same. -/
theorem frame_ideal_pre : Cert.quiescent_KernelIdeal_pre_distinct_channels_finite_x := fun m ρ h =>
  Cert.KernelIdeal.Run.frame m ρ (Cert.KernelIdeal.Run.hyps_of m fun c k => (Cert.Words.split_of_pre _ _ _ _ _ (h c)).1 k)

/-- The reference at the extended reals: the same. -/
theorem frame_reference : Cert.quiescent_ReferenceIdeal := fun m ρ _ => Cert.ReferenceIdeal.Gen.frame m ρ

/-- The reference at the extended reals, under the second precondition: the same. -/
theorem frame_reference_pre : Cert.quiescent_ReferenceIdeal_pre_distinct_channels_finite_x := fun m ρ _ => Cert.ReferenceIdeal.Gen.frame m ρ

/-- A comparison that answers yes, as an inequality. -/
theorem le_of_cmpf (x y : EReal) (h : FloatOps.cmpf (F := Ideal) (φ := .bf16) .ole x y = 1#1) : x ≤ y := by
  by_contra hn
  have e : FloatOps.cmpf (F := Ideal) (φ := .bf16) .ole x y = BitVec.ofBool (decide (x ≤ y)) := rfl
  rw [e, decide_eq_false hn] at h
  exact absurd h (by decide)

/-- Kernel and reference compute equal results: both are the formulas of `Spec`. -/
theorem algebraic : Cert.algebraic_KernelIdeal_ReferenceIdeal_pre_distinct_channels_finite_x := fun m g m' g' h hag => by
  have hsplit := fun c => Cert.Words.split_of_pre _ _ _ _ _ (h c)
  have hlt : ∀ c k, (Cert.KernelIdeal.Run.aI m c k).toNat < 3584 := fun c k => (hsplit c).1 (ix1 k)
  have hinj : ∀ c k l, Cert.KernelIdeal.Run.aI m c k = Cert.KernelIdeal.Run.aI m c l → k = l := fun c k l e => congrFun ((hsplit c).2.1 (ix1 k) (ix1 l) e) 0
  have hfin : ∀ c r d, FloatOps.absf (F := Ideal) (φ := .f32) (Cert.KernelIdeal.Run.aX m c r d) ≤ Ideal.ofBits .bf16 0x7F7F#16 :=
    fun c r d => le_of_cmpf _ _ ((hsplit c).2.2 _)
  have hH := Cert.KernelIdeal.Run.hyps_of m fun c k => (hsplit c).1 k
  refine ⟨fun c i => Cert.Spec.y (Cert.KernelIdeal.Run.aX m c) (Cert.KernelIdeal.Run.aI m c) (Cert.KernelIdeal.Run.aO m c) (Cert.KernelIdeal.Run.aW m c) (Cert.KernelIdeal.Run.aS m c) (i 0) (i 1),
    fun c i => Cert.Spec.code (Cert.KernelIdeal.Run.aX m c) (Cert.KernelIdeal.Run.aI m c) (i 0) (i 1),
    fun c i => Cert.Spec.scale (Cert.KernelIdeal.Run.aX m c) (Cert.KernelIdeal.Run.aI m c) (i 0) (i 1), ?_, ?_⟩
  · refine (θ_run _ _ _).mono (fun r hr c => ?_) (Cert.KernelIdeal.Run.run_main m g hH (Cert.KernelIdeal.Run.claims m)
      (Cert.KernelIdeal.Run.holdsA m hlt hinj hH) (Cert.KernelIdeal.Run.holdsB m hlt hinj hH))
    refine ⟨funext fun i => ?_, funext fun i => ?_, funext fun i => ?_, Cert.KernelIdeal.Run.unchanged m _ r hr.1 c⟩
    · exact (congrArg _ (ix2_eta i).symm).trans (Cert.KernelIdeal.Run.array6 m r hr.1 c (i 0) (i 1))
    · exact (congrArg _ (ix2_eta i).symm).trans (Cert.KernelIdeal.Run.array7 m r hr.1 c (i 0) (i 1))
    · exact (congrArg _ (ix2_eta i).symm).trans (Cert.KernelIdeal.Run.array8 m r hr.1 c (i 0) (i 1))
  · refine (θ_run _ _ _).mono (fun r hr c => ?_) (Cert.ReferenceIdeal.Value.run_blocks m' g')
    obtain ⟨h0, h1, h2, k⟩ := hr c
    obtain ⟨a0, a1, a2, a3, a4⟩ := hag c
    have hlt' : ∀ k, (Cert.Spec.ids (m' ((c.tc : Thread Cert.ReferenceIdeal.nD Cert.ReferenceIdeal.τ).loc Cert.ReferenceIdeal.main_arg1)) k).toNat < 3584 := by
      rw [a1]; exact hlt c
    have hinj' : ∀ k l, Cert.Spec.ids (m' ((c.tc : Thread Cert.ReferenceIdeal.nD Cert.ReferenceIdeal.τ).loc Cert.ReferenceIdeal.main_arg1)) k = Cert.Spec.ids (m' ((c.tc : Thread Cert.ReferenceIdeal.nD Cert.ReferenceIdeal.τ).loc Cert.ReferenceIdeal.main_arg1)) l → k = l := by
      rw [a1]; exact hinj c
    have hfin' : ∀ r d, FloatOps.absf (F := Ideal) (φ := .f32) (Cert.Spec.act (m' ((c.tc : Thread Cert.ReferenceIdeal.nD Cert.ReferenceIdeal.τ).loc Cert.ReferenceIdeal.main_arg0)) r d) ≤ Ideal.ofBits .bf16 0x7F7F#16 := by
      rw [a0]; exact hfin c
    refine ⟨h0.trans (funext fun i => ?_), h1.trans (funext fun i => ?_), h2.trans (funext fun i => ?_), k⟩
    · refine (congrArg _ (ix2_eta i).symm).trans ((Cert.ReferenceIdeal.Read.val7 m' c hlt' hfin' hinj' (i 0) (i 1)).trans ?_)
      rw [a0, a1, a2, a3, a4]
    · refine (congrArg _ (ix2_eta i).symm).trans ((Cert.ReferenceIdeal.Read.val8 m' c hlt' hfin' (i 0) (i 1)).trans ?_)
      rw [a0, a1]
    · refine (congrArg _ (ix2_eta i).symm).trans ((Cert.ReferenceIdeal.Read.val9 m' c hlt' hfin' (i 0) (i 1)).trans ?_)
      rw [a0, a1]

theorem claim : Cert.Claim :=
  ⟨Cert.Kernel.Gen.facts, Cert.KernelIdeal.Gen.facts, Cert.ReferenceIdeal.Gen.facts, Cert.Pre_channels_in_range.Gen.facts, Cert.Pre_distinct_channels_finite_x.Gen.facts,
    frame_kernel, frame_ideal, frame_ideal_pre, frame_reference, frame_reference_pre, trivial, algebraic⟩

end Cert.Proof

end
